-- ==== Defs.lean ====
def Pre_Band1 (m : (ℓ : Loc Cert.Band1.nD Cert.Band1.τ Cert.Band1.sig) → Buf (Elt Bits) ℓ) : Prop :=
  True

def Pre_Band1Ideal (m : (ℓ : Loc Cert.Band1Ideal.nD Cert.Band1Ideal.τ Cert.Band1Ideal.sig) → Buf (Elt Ideal) ℓ) : Prop :=
  True

def Pre_Band1Ideal_finite_z [hPre_finite_z : Cert.Pre_finite_z.Facts] (m : (ℓ : Loc Cert.Band1Ideal.nD Cert.Band1Ideal.τ Cert.Band1Ideal.sig) → Buf (Elt Ideal) ℓ) : Prop :=
  ∀ c : Dev Cert.Band1Ideal.nD,
    (Cert.Pre_finite_z.fn (F := Ideal) (m ((c.tc : Thread Cert.Band1Ideal.nD Cert.Band1Ideal.τ).loc Cert.Band1Ideal.main_arg0))) = (fun _ => 1#1)

def Pre_Band1RefIdeal (m : (ℓ : Loc Cert.Band1RefIdeal.nD Cert.Band1RefIdeal.τ Cert.Band1RefIdeal.sig) → Buf (Elt Ideal) ℓ) : Prop :=
  True

def Pre_Band1RefIdeal_finite_z [hPre_finite_z : Cert.Pre_finite_z.Facts] (m : (ℓ : Loc Cert.Band1RefIdeal.nD Cert.Band1RefIdeal.τ Cert.Band1RefIdeal.sig) → Buf (Elt Ideal) ℓ) : Prop :=
  ∀ c : Dev Cert.Band1RefIdeal.nD,
    (Cert.Pre_finite_z.fn (F := Ideal) (m ((c.tc : Thread Cert.Band1RefIdeal.nD Cert.Band1RefIdeal.τ).loc Cert.Band1RefIdeal.main_arg0))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_inputs [hPre_finite_inputs : Cert.Pre_finite_inputs.Facts] (m : (ℓ : Loc Cert.InprojIdeal.nD Cert.InprojIdeal.τ Cert.InprojIdeal.sig) → Buf (Elt Ideal) ℓ) : Prop :=
  ∀ c : Dev Cert.InprojIdeal.nD,
    (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).1 = (fun _ => 1#1)
    ∧ (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_inputs [hPre_finite_inputs : Cert.Pre_finite_inputs.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).1 = (fun _ => 1#1)
    ∧ (Cert.Pre_finite_inputs.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_lses [hPre_finite_lses : Cert.Pre_finite_lses.Facts] (m : (ℓ : Loc Cert.MergeIdeal.nD Cert.MergeIdeal.τ Cert.MergeIdeal.sig) → Buf (Elt Ideal) ℓ) : Prop :=
  ∀ c : Dev Cert.MergeIdeal.nD,
    (Cert.Pre_finite_lses.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))).1 = (fun _ => 1#1)
    ∧ (Cert.Pre_finite_lses.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))).2.1 = (fun _ => 1#1)
    ∧ (Cert.Pre_finite_lses.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))).2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_lses [hPre_finite_lses : Cert.Pre_finite_lses.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_lses.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))).1 = (fun _ => 1#1)
    ∧ (Cert.Pre_finite_lses.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))).2.1 = (fun _ => 1#1)
    ∧ (Cert.Pre_finite_lses.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))).2.2 = (fun _ => 1#1)

def quiescent_Band1 [hBand1 : Cert.Band1.Facts] : Prop :=
  ∀ (m : (ℓ : Loc Cert.Band1.nD Cert.Band1.τ Cert.Band1.sig) → Buf (Elt Bits) ℓ) (g : Dev Cert.Band1.nD → PrngReg), Pre_Band1 m →
    θ_run (Cert.Band1.defs (F := Bits)) (onTc (τ := Cert.Band1.τ) (Cert.Band1.main (F := Bits))) ⟨m, fun _ => 0, g⟩ (fun r => (∀ c : Dev Cert.Band1.nD,
      r.2.mem ((c.tc : Thread Cert.Band1.nD Cert.Band1.τ).loc Cert.Band1.main_arg0) = m ((c.tc : Thread Cert.Band1.nD Cert.Band1.τ).loc Cert.Band1.main_arg0))
      ∧ r.2.sem = fun _ => 0)

def quiescent_Band1Ideal [hBand1Ideal : Cert.Band1Ideal.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0))
      ∧ r.2.sem = fun _ => 0)

def quiescent_Band1Ideal_pre_finite_z [hBand1Ideal : Cert.Band1Ideal.Facts] [hPre_finite_z : Cert.Pre_finite_z.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal_finite_z m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0))
      ∧ r.2.sem = fun _ => 0)

def quiescent_Band1RefIdeal [hBand1RefIdeal : Cert.Band1RefIdeal.Facts] : Prop :=
  ∀ (m : (ℓ : Loc Cert.Band1RefIdeal.nD Cert.Band1RefIdeal.τ Cert.Band1RefIdeal.sig) → Buf (Elt Ideal) ℓ) (g : Dev Cert.Band1RefIdeal.nD → PrngReg), Pre_Band1RefIdeal m →
    θ_run (Cert.Band1RefIdeal.defs (F := Ideal)) (onTc (τ := Cert.Band1RefIdeal.τ) (Cert.Band1RefIdeal.main (F := Ideal))) ⟨m, fun _ => 0, g⟩ (fun r => (∀ c : Dev Cert.Band1RefIdeal.nD,
      r.2.mem ((c.tc : Thread Cert.Band1RefIdeal.nD Cert.Band1RefIdeal.τ).loc Cert.Band1RefIdeal.main_arg0) = m ((c.tc : Thread Cert.Band1RefIdeal.nD Cert.Band1RefIdeal.τ).loc Cert.Band1RefIdeal.main_arg0))
      ∧ r.2.sem = fun _ => 0)

def quiescent_Band1RefIdeal_pre_finite_z [hBand1RefIdeal : Cert.Band1RefIdeal.Facts] [hPre_finite_z : Cert.Pre_finite_z.Facts] : Prop :=
  ∀ (m : (ℓ : Loc Cert.Band1RefIdeal.nD Cert.Band1RefIdeal.τ Cert.Band1RefIdeal.sig) → Buf (Elt Ideal) ℓ) (g : Dev Cert.Band1RefIdeal.nD → PrngReg), Pre_Band1RefIdeal_finite_z m →
    θ_run (Cert.Band1RefIdeal.defs (F := Ideal)) (onTc (τ := Cert.Band1RefIdeal.τ) (Cert.Band1RefIdeal.main (F := Ideal))) ⟨m, fun _ => 0, g⟩ (fun r => (∀ c : Dev Cert.Band1RefIdeal.nD,
      r.2.mem ((c.tc : Thread Cert.Band1RefIdeal.nD Cert.Band1RefIdeal.τ).loc Cert.Band1RefIdeal.main_arg0) = m ((c.tc : Thread Cert.Band1RefIdeal.nD Cert.Band1RefIdeal.τ).loc Cert.Band1RefIdeal.main_arg0))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_finite_inputs [hInprojIdeal : Cert.InprojIdeal.Facts] [hPre_finite_inputs : Cert.Pre_finite_inputs.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_inputs m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_finite_inputs [hInprojRefIdeal : Cert.InprojRefIdeal.Facts] [hPre_finite_inputs : Cert.Pre_finite_inputs.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_inputs m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeIdeal_pre_finite_lses [hMergeIdeal : Cert.MergeIdeal.Facts] [hPre_finite_lses : Cert.Pre_finite_lses.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_lses m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MergeRefIdeal_pre_finite_lses [hMergeRefIdeal : Cert.MergeRefIdeal.Facts] [hPre_finite_lses : Cert.Pre_finite_lses.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_lses m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def preserves_Band1_Band1Ideal : Prop :=
  IdealRules.named_const.Statement Cert.Band1Ideal.κ "mask" .f32 0xF149F2CA#32 ⊥

def algebraic_Band1Ideal_Band1RefIdeal_pre_finite_z [hBand1Ideal : Cert.Band1Ideal.Facts] [hBand1RefIdeal : Cert.Band1RefIdeal.Facts] [hPre_finite_z : Cert.Pre_finite_z.Facts] : Prop :=
  ∀ (m : (ℓ : Loc Cert.Band1Ideal.nD Cert.Band1Ideal.τ Cert.Band1Ideal.sig) → Buf (Elt Ideal) ℓ) (g : Dev Cert.Band1Ideal.nD → PrngReg)
    (m' : (ℓ : Loc Cert.Band1RefIdeal.nD Cert.Band1RefIdeal.τ Cert.Band1RefIdeal.sig) → Buf (Elt Ideal) ℓ) (g' : Dev Cert.Band1RefIdeal.nD → PrngReg), Pre_Band1Ideal_finite_z m →
    (∀ c : Dev Cert.Band1Ideal.nD,
      m' ((c.tc : Thread Cert.Band1RefIdeal.nD Cert.Band1RefIdeal.τ).loc Cert.Band1RefIdeal.main_arg0) = m ((c.tc : Thread Cert.Band1Ideal.nD Cert.Band1Ideal.τ).loc Cert.Band1Ideal.main_arg0)) →
    ∃ (v0 : (c : Dev Cert.Band1Ideal.nD) → Buf (Elt Ideal) ((c.tc : Thread Cert.Band1Ideal.nD Cert.Band1Ideal.τ).loc Cert.Band1Ideal.main_v0_0)) (v1 : (c : Dev Cert.Band1Ideal.nD) → Buf (Elt Ideal) ((c.tc : Thread Cert.Band1Ideal.nD Cert.Band1Ideal.τ).loc Cert.Band1Ideal.main_v0_1)),
      θ_run (Cert.Band1Ideal.defs (F := Ideal)) (onTc (τ := Cert.Band1Ideal.τ) (Cert.Band1Ideal.main (F := Ideal))) ⟨m, fun _ => 0, g⟩ (fun r => ∀ c : Dev Cert.Band1Ideal.nD,
          r.2.mem ((c.tc : Thread Cert.Band1Ideal.nD Cert.Band1Ideal.τ).loc Cert.Band1Ideal.main_v0_0) = v0 c
          ∧ r.2.mem ((c.tc : Thread Cert.Band1Ideal.nD Cert.Band1Ideal.τ).loc Cert.Band1Ideal.main_v0_1) = v1 c
          ∧ r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0))
      ∧ θ_run (Cert.Band1RefIdeal.defs (F := Ideal)) (onTc (τ := Cert.Band1RefIdeal.τ) (Cert.Band1RefIdeal.main (F := Ideal))) ⟨m', fun _ => 0, g'⟩ (fun r => ∀ c : Dev Cert.Band1RefIdeal.nD,
          r.2.mem ((c.tc : Thread Cert.Band1RefIdeal.nD Cert.Band1RefIdeal.τ).loc Cert.Band1RefIdeal.main_v70) = v0 c
          ∧ r.2.mem ((c.tc : Thread Cert.Band1RefIdeal.nD Cert.Band1RefIdeal.τ).loc Cert.Band1RefIdeal.main_v74) = v1 c
          ∧ r.2.mem ((c.tc : Thread Cert.Band1RefIdeal.nD Cert.Band1RefIdeal.τ).loc Cert.Band1RefIdeal.main_arg0) = m' ((c.tc : Thread Cert.Band1RefIdeal.nD Cert.Band1RefIdeal.τ).loc Cert.Band1RefIdeal.main_arg0))

def preserves_Inproj_InprojIdeal : Prop :=
  True

def algebraic_InprojIdeal_InprojRefIdeal_pre_finite_inputs [hInprojIdeal : Cert.InprojIdeal.Facts] [hInprojRefIdeal : Cert.InprojRefIdeal.Facts] [hPre_finite_inputs : Cert.Pre_finite_inputs.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_inputs m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v44)) (v1 : (c : Dev Cert.InprojIdeal.nD) → Buf (Elt Ideal) ((c.tc : Thread Cert.InprojIdeal.nD Cert.InprojIdeal.τ).loc Cert.InprojIdeal.main_v53)) (v2 : (c : Dev Cert.InprojIdeal.nD) → Buf (Elt Ideal) ((c.tc : Thread Cert.InprojIdeal.nD Cert.InprojIdeal.τ).loc Cert.InprojIdeal.main_v61)) (v3 : (c : Dev Cert.InprojIdeal.nD) → Buf (Elt Ideal) ((c.tc : Thread Cert.InprojIdeal.nD Cert.InprojIdeal.τ).loc Cert.InprojIdeal.main_v69)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v44) = v0 c
          ∧ r.2.mem ((c.tc : Thread Cert.InprojIdeal.nD Cert.InprojIdeal.τ).loc Cert.InprojIdeal.main_v53) = v1 c
          ∧ r.2.mem ((c.tc : Thread Cert.InprojIdeal.nD Cert.InprojIdeal.τ).loc Cert.InprojIdeal.main_v61) = v2 c
          ∧ r.2.mem ((c.tc : Thread Cert.InprojIdeal.nD Cert.InprojIdeal.τ).loc Cert.InprojIdeal.main_v69) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v130) = v0 c
          ∧ r.2.mem ((c.tc : Thread Cert.InprojRefIdeal.nD Cert.InprojRefIdeal.τ).loc Cert.InprojRefIdeal.main_v135) = v1 c
          ∧ r.2.mem ((c.tc : Thread Cert.InprojRefIdeal.nD Cert.InprojRefIdeal.τ).loc Cert.InprojRefIdeal.main_v140) = v2 c
          ∧ r.2.mem ((c.tc : Thread Cert.InprojRefIdeal.nD Cert.InprojRefIdeal.τ).loc Cert.InprojRefIdeal.main_v145) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Merge_MergeIdeal : Prop :=
  True

def algebraic_MergeIdeal_MergeRefIdeal_pre_finite_lses [hMergeIdeal : Cert.MergeIdeal.Facts] [hMergeRefIdeal : Cert.MergeRefIdeal.Facts] [hPre_finite_lses : Cert.Pre_finite_lses.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_lses m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v62) = v0 c
          ∧ r.2.mem ((c.tc : Thread Cert.MergeRefIdeal.nD Cert.MergeRefIdeal.τ).loc Cert.MergeRefIdeal.main_v76) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def Claim : Prop :=
  ∃ (hBand1 : Cert.Band1.Facts) (hBand1Ideal : Cert.Band1Ideal.Facts) (hBand1RefIdeal : Cert.Band1RefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPre_finite_z : Cert.Pre_finite_z.Facts) (hPre_finite_inputs : Cert.Pre_finite_inputs.Facts) (hPre_finite_lses : Cert.Pre_finite_lses.Facts),
    quiescent_Band1 (hBand1 := hBand1)
    ∧ quiescent_Band1Ideal (hBand1Ideal := hBand1Ideal)
    ∧ quiescent_Band1Ideal_pre_finite_z (hBand1Ideal := hBand1Ideal) (hPre_finite_z := hPre_finite_z)
    ∧ quiescent_Band1RefIdeal (hBand1RefIdeal := hBand1RefIdeal)
    ∧ quiescent_Band1RefIdeal_pre_finite_z (hBand1RefIdeal := hBand1RefIdeal) (hPre_finite_z := hPre_finite_z)
    ∧ quiescent_Inproj (hInproj := hInproj)
    ∧ quiescent_InprojIdeal (hInprojIdeal := hInprojIdeal)
    ∧ quiescent_InprojIdeal_pre_finite_inputs (hInprojIdeal := hInprojIdeal) (hPre_finite_inputs := hPre_finite_inputs)
    ∧ quiescent_InprojRefIdeal (hInprojRefIdeal := hInprojRefIdeal)
    ∧ quiescent_InprojRefIdeal_pre_finite_inputs (hInprojRefIdeal := hInprojRefIdeal) (hPre_finite_inputs := hPre_finite_inputs)
    ∧ quiescent_Merge (hMerge := hMerge)
    ∧ quiescent_MergeIdeal (hMergeIdeal := hMergeIdeal)
    ∧ quiescent_MergeIdeal_pre_finite_lses (hMergeIdeal := hMergeIdeal) (hPre_finite_lses := hPre_finite_lses)
    ∧ quiescent_MergeRefIdeal (hMergeRefIdeal := hMergeRefIdeal)
    ∧ quiescent_MergeRefIdeal_pre_finite_lses (hMergeRefIdeal := hMergeRefIdeal) (hPre_finite_lses := hPre_finite_lses)
    ∧ preserves_Band1_Band1Ideal
    ∧ algebraic_Band1Ideal_Band1RefIdeal_pre_finite_z (hBand1Ideal := hBand1Ideal) (hBand1RefIdeal := hBand1RefIdeal) (hPre_finite_z := hPre_finite_z)
    ∧ preserves_Inproj_InprojIdeal
    ∧ algebraic_InprojIdeal_InprojRefIdeal_pre_finite_inputs (hInprojIdeal := hInprojIdeal) (hInprojRefIdeal := hInprojRefIdeal) (hPre_finite_inputs := hPre_finite_inputs)
    ∧ preserves_Merge_MergeIdeal
    ∧ algebraic_MergeIdeal_MergeRefIdeal_pre_finite_lses (hMergeIdeal := hMergeIdeal) (hMergeRefIdeal := hMergeRefIdeal) (hPre_finite_lses := hPre_finite_lses)
-- ==== Pre_finite_inputs.lean ====
abbrev S16384x1024 : Shape := ⟨2, ![16384, 1024]⟩
abbrev S1024 : Shape := ⟨1, ![1024]⟩
abbrev S1024x4864 : Shape := ⟨2, ![1024, 4864]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x4864 : S_.BroadcastsInDim S1024x4864 (![] : Fin 0 → Fin S1024x4864.rank)

variable [Facts]

def fn {F : FTy → Type} [FloatOps F] (main_arg0 : FVec F S16384x1024 .f32) (main_arg1 : FVec F S1024 .f32) (main_arg2 : FVec F S1024x4864 .f32) (main_arg3 : FVec F S64 .f32) (main_arg4 : FVec F S64 .f32) : IVec S1024 1 × IVec S1024x4864 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4864 .f32 := Host.absf main_arg2
  let main_cst_0 : FVec F S_ .f32 := constant S_ .f32 0x7F800000#32
  let main_v4 : FVec F S1024x4864 .f32 := broadcastInDim S1024x4864 ![] bcast_S_S1024x4864 main_cst_0
  let main_v5 : IVec S1024x4864 1 := cmpf .olt main_v3 main_v4
  (main_v2, main_v5)
-- ==== Pre_finite_lses.lean ====
abbrev S16384x1024 : Shape := ⟨2, ![16384, 1024]⟩
abbrev S2x16384x128 : Shape := ⟨3, ![2, 16384, 128]⟩
abbrev S16384x512 : Shape := ⟨2, ![16384, 512]⟩
abbrev S16384x5120 : Shape := ⟨2, ![16384, 5120]⟩
abbrev S256x1024 : Shape := ⟨2, ![256, 1024]⟩
abbrev S512x2048 : Shape := ⟨2, ![512, 2048]⟩
abbrev S1024x1024 : Shape := ⟨2, ![1024, 1024]⟩
abbrev S1024 : Shape := ⟨1, ![1024]⟩
abbrev S_ : Shape := ⟨0, ![]⟩

class Facts : Prop where
  bcast_S_S2x16384x128 : S_.BroadcastsInDim S2x16384x128 (![] : Fin 0 → Fin S2x16384x128.rank)

variable [Facts]

def fn {F : FTy → Type} [FloatOps F] (main_arg0 : FVec F S16384x1024 .f32) (main_arg1 : FVec F S2x16384x128 .f32) (main_arg2 : FVec F S2x16384x128 .f32) (main_arg3 : FVec F S2x16384x128 .f32) (main_arg4 : FVec F S2x16384x128 .f32) (main_arg5 : FVec F S2x16384x128 .f32) (main_arg6 : FVec F S2x16384x128 .f32) (main_arg7 : FVec F S16384x512 .f32) (main_arg8 : FVec F S16384x5120 .f32) (main_arg9 : FVec F S256x1024 .f32) (main_arg10 : FVec F S512x2048 .f32) (main_arg11 : FVec F S1024x1024 .f32) (main_arg12 : FVec F S1024 .f32) : IVec S2x16384x128 1 × IVec S2x16384x128 1 × IVec S2x16384x128 1 :=
  let main_v0 : FVec F S2x16384x128 .f32 := Host.absf main_arg4
  let main_cst : FVec F S_ .f32 := constant S_ .f32 0x7F800000#32
  let main_v1 : FVec F S2x16384x128 .f32 := broadcastInDim S2x16384x128 ![] bcast_S_S2x16384x128 main_cst
  let main_v2 : IVec S2x16384x128 1 := cmpf .olt main_v0 main_v1
  let main_v3 : FVec F S2x16384x128 .f32 := Host.absf main_arg5
  let main_cst_0 : FVec F S_ .f32 := constant S_ .f32 0x7F800000#32
  let main_v4 : FVec F S2x16384x128 .f32 := broadcastInDim S2x16384x128 ![] bcast_S_S2x16384x128 main_cst_0
  let main_v5 : IVec S2x16384x128 1 := cmpf .olt main_v3 main_v4
  let main_v6 : FVec F S2x16384x128 .f32 := Host.absf main_arg6
  let main_cst_1 : FVec F S_ .f32 := constant S_ .f32 0x7F800000#32
  let main_v7 : FVec F S2x16384x128 .f32 := broadcastInDim S2x16384x128 ![] bcast_S_S2x16384x128 main_cst_1
  let main_v8 : IVec S2x16384x128 1 := cmpf .olt main_v6 main_v7
  (main_v2, main_v5, main_v8)
-- ==== Pre_finite_z.lean ====
abbrev S16384x5120 : Shape := ⟨2, ![16384, 5120]⟩
abbrev S_ : Shape := ⟨0, ![]⟩

class Facts : Prop where
  bcast_S_S16384x5120 : S_.BroadcastsInDim S16384x5120 (![] : Fin 0 → Fin S16384x5120.rank)

variable [Facts]

def fn {F : FTy → Type} [FloatOps F] (main_arg0 : FVec F S16384x5120 .f32) : IVec S16384x5120 1 :=
  let main_v0 : FVec F S16384x5120 .f32 := Host.absf main_arg0
  let main_cst : FVec F S_ .f32 := constant S_ .f32 0x7F800000#32
  let main_v1 : FVec F S16384x5120 .f32 := broadcastInDim S16384x5120 ![] bcast_S_S16384x5120 main_cst
  let main_v2 : IVec S16384x5120 1 := cmpf .olt main_v0 main_v1
  main_v2
-- ==== Band1.lean ====
abbrev S16384x5120 : Shape := ⟨2, ![16384, 5120]⟩
abbrev S2x16384x128 : Shape := ⟨3, ![2, 16384, 128]⟩
abbrev S512x128 : Shape := ⟨2, ![512, 128]⟩
abbrev S128x128 : Shape := ⟨2, ![128, 128]⟩
abbrev S2x512x128 : Shape := ⟨3, ![2, 512, 128]⟩
abbrev S128x256 : Shape := ⟨2, ![128, 256]⟩
abbrev S256x128 : Shape := ⟨2, ![256, 128]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S1x128x128 : Shape := ⟨3, ![1, 128, 128]⟩

abbrev nBuf : Space → Nat
  | .hbm => 3
  | .vmem => 24
  | .smem => 0
  | _ => 0

abbrev bufTy : (tb : Table) → Fin (tcTables nBuf tb) → BufTy
  | .hbm, ⟨0, _⟩ => ⟨S16384x5120, .f32⟩
  | .hbm, ⟨1, _⟩ => ⟨S2x16384x128, .f32⟩
  | .hbm, ⟨2, _⟩ => ⟨S2x16384x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S2x512x128, .f32⟩
  | .local _ .vmem, ⟨21, _⟩ => ⟨S2x512x128, .f32⟩
  | .local _ .vmem, ⟨22, _⟩ => ⟨S2x512x128, .f32⟩
  | .local _ .vmem, ⟨23, _⟩ => ⟨S2x512x128, .f32⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.minsi arg1 c1_i32
  let v4 : BitVec 32 := Scalar.subi v2 v3
  let c6_i32 : BitVec 32 := 6#32
  let c0_i32 : BitVec 32 := 0#32
  ![v4.toNat, c6_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.minsi arg1 c1_i32
  let v4 : BitVec 32 := Scalar.subi v2 v3
  let c7_i32 : BitVec 32 := 7#32
  let c0_i32 : BitVec 32 := 0#32
  ![v4.toNat, c7_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.minsi arg1 c1_i32
  let v4 : BitVec 32 := Scalar.subi v2 v3
  let c12_i32 : BitVec 32 := 12#32
  let c0_i32 : BitVec 32 := 0#32
  ![v4.toNat, c12_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.minsi arg1 c1_i32
  let v4 : BitVec 32 := Scalar.subi v2 v3
  let c13_i32 : BitVec 32 := 13#32
  let c0_i32 : BitVec 32 := 0#32
  ![v4.toNat, c13_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c12_i32 : BitVec 32 := 12#32
  let c0_i32 : BitVec 32 := 0#32
  ![v1.toNat, c12_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c13_i32 : BitVec 32 := 13#32
  let c0_i32 : BitVec 32 := 0#32
  ![v1.toNat, c13_i32.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Band1Ideal.lean ====
variable {F : FTy → Type} [FloatOps F] [Named F]
def κ : String → Option EReal := fun
  | "mask" => some ⊥
  | _ => none
-- ==== Band1RefIdeal.lean ====
abbrev S16384x5120 : Shape := ⟨2, ![16384, 5120]⟩
abbrev S16384x256 : Shape := ⟨2, ![16384, 256]⟩
abbrev S2x8192x4x64 : Shape := ⟨4, ![2, 8192, 4, 64]⟩
abbrev S2x64x128x4x64 : Shape := ⟨5, ![2, 64, 128, 4, 64]⟩
abbrev S_ : Shape := ⟨0, ![]⟩
abbrev S2x65x128x4x64 : Shape := ⟨5, ![2, 65, 128, 4, 64]⟩
abbrev S2x64x256x4x64 : Shape := ⟨5, ![2, 64, 256, 4, 64]⟩
abbrev S2x64x4x128x256 : Shape := ⟨5, ![2, 64, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x128x256 : Shape := ⟨5, ![1, 64, 1, 128, 256]⟩
abbrev S2x64x4x128 : Shape := ⟨4, ![2, 64, 4, 128]⟩
abbrev S2x64x4x128x1 : Shape := ⟨5, ![2, 64, 4, 128, 1]⟩
abbrev S2x64x4x64x128 : Shape := ⟨5, ![2, 64, 4, 64, 128]⟩
abbrev S2x64x128x4 : Shape := ⟨4, ![2, 64, 128, 4]⟩
abbrev S2x8192x4 : Shape := ⟨3, ![2, 8192, 4]⟩
abbrev S16384x2x128 : Shape := ⟨3, ![16384, 2, 128]⟩
abbrev S2x16384x128 : Shape := ⟨3, ![2, 16384, 128]⟩
abbrev S2x8192x4x1 : Shape := ⟨4, ![2, 8192, 4, 1]⟩

abbrev nBuf : Space → Nat
  | .hbm => 93
  | .vmem => 0
  | .smem => 0
  | _ => 0

abbrev bufTy : (tb : Table) → Fin (tcTables nBuf tb) → BufTy
  | .hbm, ⟨0, _⟩ => ⟨S16384x5120, .f32⟩
  | .hbm, ⟨1, _⟩ => ⟨S16384x256, .f32⟩
  | .hbm, ⟨2, _⟩ => ⟨S2x8192x4x64, .f32⟩
  | .hbm, ⟨3, _⟩ => ⟨S16384x256, .f32⟩
  | .hbm, ⟨4, _⟩ => ⟨S2x8192x4x64, .f32⟩
  | .hbm, ⟨5, _⟩ => ⟨S16384x256, .f32⟩
  | .hbm, ⟨6, _⟩ => ⟨S2x8192x4x64, .f32⟩
  | .hbm, ⟨7, _⟩ => ⟨S2x64x128x4x64, .f32⟩
  | .hbm, ⟨8, _⟩ => ⟨S2x64x128x4x64, .f32⟩
  | .hbm, ⟨9, _⟩ => ⟨S2x64x128x4x64, .f32⟩
  | .hbm, ⟨10, _⟩ => ⟨S_, .i32⟩
  | .hbm, ⟨11, _⟩ => ⟨S_, .f32⟩
  | .hbm, ⟨12, _⟩ => ⟨S2x65x128x4x64, .f32⟩
  | .hbm, ⟨13, _⟩ => ⟨S2x64x128x4x64, .f32⟩
  | .hbm, ⟨14, _⟩ => ⟨S2x64x256x4x64, .f32⟩
  | .hbm, ⟨15, _⟩ => ⟨S_, .i32⟩
  | .hbm, ⟨16, _⟩ => ⟨S_, .f32⟩
  | .hbm, ⟨17, _⟩ => ⟨S2x65x128x4x64, .f32⟩
  | .hbm, ⟨18, _⟩ => ⟨S2x64x128x4x64, .f32⟩
  | .hbm, ⟨19, _⟩ => ⟨S2x64x256x4x64, .f32⟩
  | .hbm, ⟨20, _⟩ => ⟨S2x64x4x128x256, .f32⟩
  | .hbm, ⟨21, _⟩ => ⟨S_, .f32⟩
  | .hbm, ⟨22, _⟩ => ⟨S2x64x4x128x256, .f32⟩
  | .hbm, ⟨23, _⟩ => ⟨S2x64x4x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S64, .i32⟩
  | .hbm, ⟨35, _⟩ => ⟨S64x1x1, .i32⟩
  | .hbm, ⟨36, _⟩ => ⟨S_, .i32⟩
  | .hbm, ⟨37, _⟩ => ⟨S64x1x1, .i32⟩
  | .hbm, ⟨38, _⟩ => ⟨S64x1x1, .i32⟩
  | .hbm, ⟨39, _⟩ => ⟨S1x1x256, .i32⟩
  | .hbm, ⟨40, _⟩ => ⟨S64x1x256, .i32⟩
  | .hbm, ⟨41, _⟩ => ⟨S64x1x256, .i32⟩
  | .hbm, ⟨42, _⟩ => ⟨S64x1x256, .i32⟩
  | .hbm, ⟨43, _⟩ => ⟨S_, .i32⟩
  | .hbm, ⟨44, _⟩ => ⟨S64x1x256, .i32⟩
  | .hbm, ⟨45, _⟩ => ⟨S64x1x256, .i32⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S1x128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S1x128x256, .i1⟩
  | .hbm, ⟨54, _⟩ => ⟨S1x128x256, .i1⟩
  | .hbm, ⟨55, _⟩ => ⟨S_, .i32⟩
  | .hbm, ⟨56, _⟩ => ⟨S64x1x256, .i32⟩
  | .hbm, ⟨57, _⟩ => ⟨S64x1x256, .i1⟩
  | .hbm, ⟨58, _⟩ => ⟨S64x128x256, .i1⟩
  | .hbm, ⟨59, _⟩ => ⟨S64x128x256, .i1⟩
  | .hbm, ⟨60, _⟩ => ⟨S64x128x256, .i1⟩
  | .hbm, ⟨61, _⟩ => ⟨S1x64x1x128x256, .i1⟩
  | .hbm, ⟨62, _⟩ => ⟨S_, .f32⟩
  | .hbm, ⟨63, _⟩ => ⟨S_, .f32⟩
  | .hbm, ⟨64, _⟩ => ⟨S2x64x4x128x256, .i1⟩
  | .hbm, ⟨65, _⟩ => ⟨S2x64x4x128x256, .f32⟩
  | .hbm, ⟨66, _⟩ => ⟨S2x64x4x128x256, .f32⟩
  | .hbm, ⟨67, _⟩ => ⟨S_, .f32⟩
  | .hbm, ⟨68, _⟩ => ⟨S2x64x4x128, .f32⟩
  | .hbm, ⟨69, _⟩ => ⟨S2x64x4x128x1, .f32⟩
  | .hbm, ⟨70, _⟩ => ⟨S2x64x4x128x256, .f32⟩
  | .hbm, ⟨71, _⟩ => ⟨S2x64x4x128x256, .f32⟩
  | .hbm, ⟨72, _⟩ => ⟨S2x64x4x128x256, .f32⟩
  | .hbm, ⟨73, _⟩ => ⟨S_, .f32⟩
  | .hbm, ⟨74, _⟩ => ⟨S2x64x4x128, .f32⟩
  | .hbm, ⟨75, _⟩ => ⟨S2x64x4x128x1, .f32⟩
  | .hbm, ⟨76, _⟩ => ⟨S2x64x4x128x1, .f32⟩
  | .hbm, ⟨77, _⟩ => ⟨S2x64x4x128x1, .f32⟩
  | .hbm, ⟨78, _⟩ => ⟨S2x64x4x128x256, .f32⟩
  | .hbm, ⟨79, _⟩ => ⟨S2x64x4x128x256, .f32⟩
  | .hbm, ⟨80, _⟩ => ⟨S2x64x4x128x256, .f32⟩
  | .hbm, ⟨81, _⟩ => ⟨S2x64x4x128, .f32⟩
  | .hbm, ⟨82, _⟩ => ⟨S2x64x4x64x128, .f32⟩
  | .hbm, ⟨83, _⟩ => ⟨S2x64x128x4x64, .f32⟩
  | .hbm, ⟨84, _⟩ => ⟨S2x8192x4x64, .f32⟩
  | .hbm, ⟨85, _⟩ => ⟨S2x64x128x4, .f32⟩
  | .hbm, ⟨86, _⟩ => ⟨S2x8192x4, .f32⟩
  | .hbm, ⟨87, _⟩ => ⟨S16384x2x128, .f32⟩
  | .hbm, ⟨88, _⟩ => ⟨S2x16384x128, .f32⟩
  | .hbm, ⟨89, _⟩ => ⟨S2x8192x4x1, .f32⟩
  | .hbm, ⟨90, _⟩ => ⟨S2x8192x4x64, .f32⟩
  | .hbm, ⟨91, _⟩ => ⟨S16384x2x128, .f32⟩
  | .hbm, ⟨92, _⟩ => ⟨S2x16384x128, .f32⟩
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_call1_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_c_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x4864 : Shape := ⟨2, ![1024, 4864]⟩
abbrev S64 : Shape := ⟨1, ![64]⟩
abbrev S256x256 : Shape := ⟨2, ![256, 256]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x64 : Shape := ⟨2, ![1, 64]⟩
abbrev S12x64 : Shape := ⟨2, ![12, 64]⟩
abbrev S768 : Shape := ⟨1, ![768]⟩
abbrev S1536 : Shape := ⟨1, ![1536]⟩
abbrev S1x1536 : Shape := ⟨2, ![1, 1536]⟩
abbrev S1x1024 : Shape := ⟨2, ![1, 1024]⟩
abbrev S16384x5120 : Shape := ⟨2, ![16384, 5120]⟩
abbrev S512x1024 : Shape := ⟨2, ![512, 1024]⟩
abbrev S512x128 : Shape := ⟨2, ![512, 128]⟩
abbrev S512x5120 : Shape := ⟨2, ![512, 5120]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩
abbrev S1x256 : Shape := ⟨2, ![1, 256]⟩
abbrev S1024x768 : Shape := ⟨2, ![1024, 768]⟩
abbrev S512x768 : Shape := ⟨2, ![512, 768]⟩
abbrev S1024x512 : Shape := ⟨2, ![1024, 512]⟩
abbrev S512x512 : Shape := ⟨2, ![512, 512]⟩
abbrev S1024x1024 : Shape := ⟨2, ![1024, 1024]⟩
abbrev S2x8192x5120 : Shape := ⟨3, ![2, 8192, 5120]⟩
abbrev S2x128x5120 : Shape := ⟨3, ![2, 128, 5120]⟩
abbrev S2x128x256 : Shape := ⟨3, ![2, 128, 256]⟩
abbrev S2x128x4x64 : Shape := ⟨4, ![2, 128, 4, 64]⟩
abbrev S2x128x1x4x64 : Shape := ⟨5, ![2, 128, 1, 4, 64]⟩
abbrev S2x128x2x4x64 : Shape := ⟨5, ![2, 128, 2, 4, 64]⟩
abbrev S2x512x5120 : Shape := ⟨3, ![2, 512, 5120]⟩
abbrev S2x512x256 : Shape := ⟨3, ![2, 512, 256]⟩
abbrev S2x512x4x64 : Shape := ⟨4, ![2, 512, 4, 64]⟩
abbrev S2x512x1x4x64 : Shape := ⟨5, ![2, 512, 1, 4, 64]⟩
abbrev S2x512x2x4x64 : Shape := ⟨5, ![2, 512, 2, 4, 64]⟩
abbrev S2x2048x5120 : Shape := ⟨3, ![2, 2048, 5120]⟩
abbrev S2x2048x256 : Shape := ⟨3, ![2, 2048, 256]⟩
abbrev S2x2048x4x64 : Shape := ⟨4, ![2, 2048, 4, 64]⟩
abbrev S2x2048x1x4x64 : Shape := ⟨5, ![2, 2048, 1, 4, 64]⟩
abbrev S2x2048x2x4x64 : Shape := ⟨5, ![2, 2048, 2, 4, 64]⟩

abbrev nBuf : Space → Nat
  | .hbm => 81
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4864, .f32⟩
  | .hbm, ⟨3, _⟩ => ⟨S64, .f32⟩
  | .hbm, ⟨4, _⟩ => ⟨S64, .f32⟩
  | .hbm, ⟨5, _⟩ => ⟨S256x256, .bf16⟩
  | .hbm, ⟨6, _⟩ => ⟨S8192, .i32⟩
  | .hbm, ⟨7, _⟩ => ⟨S1x8192, .i32⟩
  | .hbm, ⟨8, _⟩ => ⟨S2x8192, .i32⟩
  | .hbm, ⟨9, _⟩ => ⟨S16384, .i32⟩
  | .hbm, ⟨10, _⟩ => ⟨S1024x4864, .bf16⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S16384, .f32⟩
  | .hbm, ⟨20, _⟩ => ⟨S16384x1, .f32⟩
  | .hbm, ⟨21, _⟩ => ⟨S1x8, .f32⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S_, .f32⟩
  | .hbm, ⟨28, _⟩ => ⟨S16384x48, .f32⟩
  | .hbm, ⟨29, _⟩ => ⟨S_, .f32⟩
  | .hbm, ⟨30, _⟩ => ⟨S16384x48, .f32⟩
  | .hbm, ⟨31, _⟩ => ⟨S_, .f32⟩
  | .hbm, ⟨32, _⟩ => ⟨S16384x8, .f32⟩
  | .hbm, ⟨33, _⟩ => ⟨S16384x64, .f32⟩
  | .hbm, ⟨34, _⟩ => ⟨S16384x8, .f32⟩
  | .hbm, ⟨35, _⟩ => ⟨S16384x64, .f32⟩
  | .hbm, ⟨36, _⟩ => ⟨S16384x64, .f32⟩
  | .hbm, ⟨37, _⟩ => ⟨S1x16384x1x64, .f32⟩
  | .hbm, ⟨38, _⟩ => ⟨S1x16384x2x64, .f32⟩
  | .hbm, ⟨39, _⟩ => ⟨S16384x128, .f32⟩
  | .hbm, ⟨40, _⟩ => ⟨S1x16384x1x64, .f32⟩
  | .hbm, ⟨41, _⟩ => ⟨S1x16384x2x64, .f32⟩
  | .hbm, ⟨42, _⟩ => ⟨S16384x128, .f32⟩
  | .hbm, ⟨43, _⟩ => ⟨S1x16384x1x64, .f32⟩
  | .hbm, ⟨44, _⟩ => ⟨S1x16384x2x64, .f32⟩
  | .hbm, ⟨45, _⟩ => ⟨S16384x128, .f32⟩
  | .hbm, ⟨46, _⟩ => ⟨S1x64, .f32⟩
  | .hbm, ⟨47, _⟩ => ⟨S12x64, .f32⟩
  | .hbm, ⟨48, _⟩ => ⟨S768, .f32⟩
  | .hbm, ⟨49, _⟩ => ⟨S1x64, .f32⟩
  | .hbm, ⟨50, _⟩ => ⟨S12x64, .f32⟩
  | .hbm, ⟨51, _⟩ => ⟨S768, .f32⟩
  | .hbm, ⟨52, _⟩ => ⟨S1536, .f32⟩
  | .hbm, ⟨53, _⟩ => ⟨S1x1536, .f32⟩
  | .hbm, ⟨54, _⟩ => ⟨S1x1024, .f32⟩
  | .hbm, ⟨55, _⟩ => ⟨S16384x5120, .f32⟩
  | .hbm, ⟨56, _⟩ => ⟨S2x8192x5120, .f32⟩
  | .hbm, ⟨57, _⟩ => ⟨S2x128x5120, .f32⟩
  | .hbm, ⟨58, _⟩ => ⟨S2x128x256, .f32⟩
  | .hbm, ⟨59, _⟩ => ⟨S2x128x256, .f32⟩
  | .hbm, ⟨60, _⟩ => ⟨S2x128x4x64, .f32⟩
  | .hbm, ⟨61, _⟩ => ⟨S2x128x4x64, .f32⟩
  | .hbm, ⟨62, _⟩ => ⟨S2x128x1x4x64, .f32⟩
  | .hbm, ⟨63, _⟩ => ⟨S2x128x1x4x64, .f32⟩
  | .hbm, ⟨64, _⟩ => ⟨S2x128x2x4x64, .f32⟩
  | .hbm, ⟨65, _⟩ => ⟨S2x512x5120, .f32⟩
  | .hbm, ⟨66, _⟩ => ⟨S2x512x256, .f32⟩
  | .hbm, ⟨67, _⟩ => ⟨S2x512x256, .f32⟩
  | .hbm, ⟨68, _⟩ => ⟨S2x512x4x64, .f32⟩
  | .hbm, ⟨69, _⟩ => ⟨S2x512x4x64, .f32⟩
  | .hbm, ⟨70, _⟩ => ⟨S2x512x1x4x64, .f32⟩
  | .hbm, ⟨71, _⟩ => ⟨S2x512x1x4x64, .f32⟩
  | .hbm, ⟨72, _⟩ => ⟨S2x512x2x4x64, .f32⟩
  | .hbm, ⟨73, _⟩ => ⟨S2x2048x5120, .f32⟩
  | .hbm, ⟨74, _⟩ => ⟨S2x2048x256, .f32⟩
  | .hbm, ⟨75, _⟩ => ⟨S2x2048x256, .f32⟩
  | .hbm, ⟨76, _⟩ => ⟨S2x2048x4x64, .f32⟩
  | .hbm, ⟨77, _⟩ => ⟨S2x2048x4x64, .f32⟩
  | .hbm, ⟨78, _⟩ => ⟨S2x2048x1x4x64, .f32⟩
  | .hbm, ⟨79, _⟩ => ⟨S2x2048x1x4x64, .f32⟩
  | .hbm, ⟨80, _⟩ => ⟨S2x2048x2x4x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4864, .bf16⟩
  | .local _ .vmem, ⟨4, _⟩ => ⟨S1x1536, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S256x256, .bf16⟩
  | .local _ .vmem, ⟨12, _⟩ => ⟨S512x5120, .f32⟩
  | .local _ .vmem, ⟨13, _⟩ => ⟨S512x5120, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x5120 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojRefIdeal.lean ====
abbrev S16384x1024 : Shape := ⟨2, ![16384, 1024]⟩
abbrev S1024 : Shape := ⟨1, ![1024]⟩
abbrev S1024x4864 : Shape := ⟨2, ![1024, 4864]⟩
abbrev S64 : Shape := ⟨1, ![64]⟩
abbrev S2x8192x1024 : Shape := ⟨3, ![2, 8192, 1024]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4864 : Shape := ⟨3, ![2, 8192, 4864]⟩
abbrev S2x8192x768 : Shape := ⟨3, ![2, 8192, 768]⟩
abbrev S2x8192x12x64 : Shape := ⟨4, ![2, 8192, 12, 64]⟩
abbrev S2x8192x12 : Shape := ⟨3, ![2, 8192, 12]⟩
abbrev S2x8192x12x1 : Shape := ⟨4, ![2, 8192, 12, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x12x16 : Shape := ⟨4, ![2, 8192, 12, 16]⟩
abbrev S2x8192x12x8 : Shape := ⟨4, ![2, 8192, 12, 8]⟩
abbrev S1x8192x1x8 : Shape := ⟨4, ![1, 8192, 1, 8]⟩
abbrev S2x8192x12x48 : Shape := ⟨4, ![2, 8192, 12, 48]⟩
abbrev S2x8192x512 : Shape := ⟨3, ![2, 8192, 512]⟩
abbrev S16384x768 : Shape := ⟨2, ![16384, 768]⟩
abbrev S16384x512 : Shape := ⟨2, ![16384, 512]⟩
abbrev S16384x256 : Shape := ⟨2, ![16384, 256]⟩
abbrev S16384x5120 : Shape := ⟨2, ![16384, 5120]⟩
abbrev S2x128x4x64 : Shape := ⟨4, ![2, 128, 4, 64]⟩
abbrev S2x128x1x4x64 : Shape := ⟨5, ![2, 128, 1, 4, 64]⟩
abbrev S2x128x2x4x64 : Shape := ⟨5, ![2, 128, 2, 4, 64]⟩
abbrev S2x512x4x64 : Shape := ⟨4, ![2, 512, 4, 64]⟩
abbrev S2x512x1x4x64 : Shape := ⟨5, ![2, 512, 1, 4, 64]⟩
abbrev S2x512x2x4x64 : Shape := ⟨5, ![2, 512, 2, 4, 64]⟩
abbrev S2x2048x4x64 : Shape := ⟨4, ![2, 2048, 4, 64]⟩
abbrev S2x2048x1x4x64 : Shape := ⟨5, ![2, 2048, 1, 4, 64]⟩
abbrev S2x2048x2x4x64 : Shape := ⟨5, ![2, 2048, 2, 4, 64]⟩

abbrev nBuf : Space → Nat
  | .hbm => 165
  | .vmem => 0
  | .smem => 0
  | _ => 0

abbrev hbmTy0_0 (i : Nat) : BufTy := match i % 128 with
  | 0 => ⟨S16384x1024, .f32⟩
  | 1 => ⟨S1024, .f32⟩
  | 2 => ⟨S1024x4864, .f32⟩
  | 3 => ⟨S64, .f32⟩
  | 4 => ⟨S64, .f32⟩
  | 5 => ⟨S2x8192x1024, .f32⟩
  | 6 => ⟨S8192, .i32⟩
  | 7 => ⟨S2x8192x1024, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S2x8192x4864, .f32⟩
  | 24 => ⟨S2x8192x768, .f32⟩
  | 25 => ⟨S2x8192x12x64, .f32⟩
  | 26 => ⟨S2x8192x12x64, .f32⟩
  | 27 => ⟨S_, .f32⟩
  | 28 => ⟨S2x8192x12, .f32⟩
  | 29 => ⟨S2x8192x12x1, .f32⟩
  | 30 => ⟨S_, .f32⟩
  | 31 => ⟨S2x8192x12x1, .f32⟩
  | 32 => ⟨S2x8192x12x1, .f32⟩
  | 33 => ⟨S_, .f32⟩
  | 34 => ⟨S2x8192x12x1, .f32⟩
  | 35 => ⟨S2x8192x12x1, .f32⟩
  | 36 => ⟨S2x8192x12x1, .f32⟩
  | 37 => ⟨S2x8192x12x64, .f32⟩
  | 38 => ⟨S2x8192x12x64, .f32⟩
  | 39 => ⟨S1x1x1x64, .f32⟩
  | 40 => ⟨S2x8192x12x64, .f32⟩
  | 41 => ⟨S2x8192x12x64, .f32⟩
  | 42 => ⟨S8, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S8192, .f32⟩
  | 51 => ⟨S8192x1, .f32⟩
  | 52 => ⟨S1x8, .f32⟩
  | 53 => ⟨S8192x8, .f32⟩
  | 54 => ⟨S8192x8, .f32⟩
  | 55 => ⟨S8192x8, .f32⟩
  | 56 => ⟨S8192x8, .f32⟩
  | 57 => ⟨S8192x1x8, .f32⟩
  | 58 => ⟨S8192x8, .f32⟩
  | 59 => ⟨S8192x1x8, .f32⟩
  | 60 => ⟨S2x8192x12x16, .f32⟩
  | 61 => ⟨S2x8192x12x8, .f32⟩
  | 62 => ⟨S2x8192x12x8, .f32⟩
  | 63 => ⟨S1x8192x1x8, .f32⟩
  | 64 => ⟨S2x8192x12x8, .f32⟩
  | 65 => ⟨S2x8192x12x8, .f32⟩
  | 66 => ⟨S1x8192x1x8, .f32⟩
  | 67 => ⟨S2x8192x12x8, .f32⟩
  | 68 => ⟨S2x8192x12x8, .f32⟩
  | 69 => ⟨S2x8192x12x8, .f32⟩
  | 70 => ⟨S1x8192x1x8, .f32⟩
  | 71 => ⟨S2x8192x12x8, .f32⟩
  | 72 => ⟨S2x8192x12x8, .f32⟩
  | 73 => ⟨S1x8192x1x8, .f32⟩
  | 74 => ⟨S2x8192x12x8, .f32⟩
  | 75 => ⟨S2x8192x12x8, .f32⟩
  | 76 => ⟨S2x8192x12x8, .f32⟩
  | 77 => ⟨S2x8192x12x16, .f32⟩
  | 78 => ⟨S2x8192x12x48, .f32⟩
  | 79 => ⟨S2x8192x12x64, .f32⟩
  | 80 => ⟨S2x8192x768, .f32⟩
  | 81 => ⟨S2x8192x12x64, .f32⟩
  | 82 => ⟨S2x8192x12x64, .f32⟩
  | 83 => ⟨S_, .f32⟩
  | 84 => ⟨S2x8192x12, .f32⟩
  | 85 => ⟨S2x8192x12x1, .f32⟩
  | 86 => ⟨S_, .f32⟩
  | 87 => ⟨S2x8192x12x1, .f32⟩
  | 88 => ⟨S2x8192x12x1, .f32⟩
  | 89 => ⟨S_, .f32⟩
  | 90 => ⟨S2x8192x12x1, .f32⟩
  | 91 => ⟨S2x8192x12x1, .f32⟩
  | 92 => ⟨S2x8192x12x1, .f32⟩
  | 93 => ⟨S2x8192x12x64, .f32⟩
  | 94 => ⟨S2x8192x12x64, .f32⟩
  | 95 => ⟨S1x1x1x64, .f32⟩
  | 96 => ⟨S2x8192x12x64, .f32⟩
  | 97 => ⟨S2x8192x12x64, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S8192, .f32⟩
  | 107 => ⟨S8192x1, .f32⟩
  | 108 => ⟨S1x8, .f32⟩
  | 109 => ⟨S8192x8, .f32⟩
  | 110 => ⟨S8192x8, .f32⟩
  | 111 => ⟨S8192x8, .f32⟩
  | 112 => ⟨S8192x8, .f32⟩
  | 113 => ⟨S8192x1x8, .f32⟩
  | 114 => ⟨S8192x8, .f32⟩
  | 115 => ⟨S8192x1x8, .f32⟩
  | 116 => ⟨S2x8192x12x16, .f32⟩
  | 117 => ⟨S2x8192x12x8, .f32⟩
  | 118 => ⟨S2x8192x12x8, .f32⟩
  | 119 => ⟨S1x8192x1x8, .f32⟩
  | 120 => ⟨S2x8192x12x8, .f32⟩
  | 121 => ⟨S2x8192x12x8, .f32⟩
  | 122 => ⟨S1x8192x1x8, .f32⟩
  | 123 => ⟨S2x8192x12x8, .f32⟩
  | 124 => ⟨S2x8192x12x8, .f32⟩
  | 125 => ⟨S2x8192x12x8, .f32⟩
  | 126 => ⟨S1x8192x1x8, .f32⟩
  | 127 => ⟨S2x8192x12x8, .f32⟩
  | _ => ⟨S16384x1024, .f32⟩

abbrev hbmTy0_1 (i : Nat) : BufTy := match i % 128 with
  | 0 => ⟨S2x8192x12x8, .f32⟩
  | 1 => ⟨S1x8192x1x8, .f32⟩
  | 2 => ⟨S2x8192x12x8, .f32⟩
  | 3 => ⟨S2x8192x12x8, .f32⟩
  | 4 => ⟨S2x8192x12x8, .f32⟩
  | 5 => ⟨S2x8192x12x16, .f32⟩
  | 6 => ⟨S2x8192x12x48, .f32⟩
  | 7 => ⟨S2x8192x12x64, .f32⟩
  | 8 => ⟨S2x8192x768, .f32⟩
  | 9 => ⟨S2x8192x12x64, .f32⟩
  | 10 => ⟨S2x8192x512, .f32⟩
  | 11 => ⟨S2x8192x1024, .f32⟩
  | 12 => ⟨S2x8192x1024, .f32⟩
  | 13 => ⟨S16384x768, .f32⟩
  | 14 => ⟨S16384x768, .f32⟩
  | 15 => ⟨S16384x768, .f32⟩
  | 16 => ⟨S16384x512, .f32⟩
  | 17 => ⟨S16384x1024, .f32⟩
  | 18 => ⟨S16384x1024, .f32⟩
  | 19 => ⟨S_, .f32⟩
  | 20 => ⟨S16384x256, .f32⟩
  | 21 => ⟨S16384x5120, .f32⟩
  | 22 => ⟨S2x128x4x64, .f32⟩
  | 23 => ⟨S2x128x4x64, .f32⟩
  | 24 => ⟨S2x128x1x4x64, .f32⟩
  | 25 => ⟨S2x128x1x4x64, .f32⟩
  | 26 => ⟨S2x128x2x4x64, .f32⟩
  | 27 => ⟨S2x512x4x64, .f32⟩
  | 28 => ⟨S2x512x4x64, .f32⟩
  | 29 => ⟨S2x512x1x4x64, .f32⟩
  | 30 => ⟨S2x512x1x4x64, .f32⟩
  | 31 => ⟨S2x512x2x4x64, .f32⟩
  | 32 => ⟨S2x2048x4x64, .f32⟩
  | 33 => ⟨S2x2048x4x64, .f32⟩
  | 34 => ⟨S2x2048x1x4x64, .f32⟩
  | 35 => ⟨S2x2048x1x4x64, .f32⟩
  | 36 => ⟨S2x2048x2x4x64, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_7 : Ref sig .tc := ⟨.hbm, 83, rfl⟩
abbrev main_v70 : Ref sig .tc := ⟨.hbm, 84, rfl⟩
abbrev main_v71 : Ref sig .tc := ⟨.hbm, 85, rfl⟩
abbrev main_cst_8 : Ref sig .tc := ⟨.hbm, 86, rfl⟩
abbrev main_v72 : Ref sig .tc := ⟨.hbm, 87, rfl⟩
abbrev main_v73 : Ref sig .tc := ⟨.hbm, 88, rfl⟩
abbrev main_cst_9 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_v85 : Ref sig .tc := ⟨.hbm, 102, rfl⟩
abbrev main_cst_11 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_cst_12 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩

abbrev nD : Nat := 1
abbrev τ : Topo := Topo.v7x

variable {F : FTy → Type} [FloatOps F]
-- ==== Merge.lean ====
abbrev S16384x1024 : Shape := ⟨2, ![16384, 1024]⟩
abbrev S2x16384x128 : Shape := ⟨3, ![2, 16384, 128]⟩
abbrev S16384x512 : Shape := ⟨2, ![16384, 512]⟩
abbrev S16384x5120 : Shape := ⟨2, ![16384, 5120]⟩
abbrev S256x1024 : Shape := ⟨2, ![256, 1024]⟩
abbrev S512x2048 : Shape := ⟨2, ![512, 2048]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S2x512x128 : Shape := ⟨3, ![2, 512, 128]⟩
abbrev S512x512 : Shape := ⟨2, ![512, 512]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 19
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S2x16384x128, .f32⟩
  | .hbm, ⟨2, _⟩ => ⟨S2x16384x128, .f32⟩
  | .hbm, ⟨3, _⟩ => ⟨S2x16384x128, .f32⟩
  | .hbm, ⟨4, _⟩ => ⟨S2x16384x128, .f32⟩
  | .hbm, ⟨5, _⟩ => ⟨S2x16384x128, .f32⟩
  | .hbm, ⟨6, _⟩ => ⟨S2x16384x128, .f32⟩
  | .hbm, ⟨7, _⟩ => ⟨S16384x512, .f32⟩
  | .hbm, ⟨8, _⟩ => ⟨S16384x5120, .f32⟩
  | .hbm, ⟨9, _⟩ => ⟨S256x1024, .f32⟩
  | .hbm, ⟨10, _⟩ => ⟨S512x2048, .f32⟩
  | .hbm, ⟨11, _⟩ => ⟨S1024x1024, .f32⟩
  | .hbm, ⟨12, _⟩ => ⟨S1024, .f32⟩
  | .hbm, ⟨13, _⟩ => ⟨S256x1024, .bf16⟩
  | .hbm, ⟨14, _⟩ => ⟨S512x2048, .bf16⟩
  | .hbm, ⟨15, _⟩ => ⟨S1024x1024, .bf16⟩
  | .hbm, ⟨16, _⟩ => ⟨S1x1024, .f32⟩
  | .hbm, ⟨17, _⟩ => ⟨S16384x1024, .f32⟩
  | .hbm, ⟨18, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S2x512x128, .f32⟩
  | .local _ .vmem, ⟨3, _⟩ => ⟨S2x512x128, .f32⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S256x1024, .bf16⟩
  | .local _ .vmem, ⟨21, _⟩ => ⟨S512x2048, .bf16⟩
  | .local _ .vmem, ⟨22, _⟩ => ⟨S1024x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S16384x1024 : Shape := ⟨2, ![16384, 1024]⟩
abbrev S2x16384x128 : Shape := ⟨3, ![2, 16384, 128]⟩
abbrev S16384x512 : Shape := ⟨2, ![16384, 512]⟩
abbrev S16384x5120 : Shape := ⟨2, ![16384, 5120]⟩
abbrev S256x1024 : Shape := ⟨2, ![256, 1024]⟩
abbrev S512x2048 : Shape := ⟨2, ![512, 2048]⟩
abbrev S1024x1024 : Shape := ⟨2, ![1024, 1024]⟩
abbrev S1024 : Shape := ⟨1, ![1024]⟩
abbrev S16384x2x128 : Shape := ⟨3, ![16384, 2, 128]⟩
abbrev S16384x256 : Shape := ⟨2, ![16384, 256]⟩
abbrev S1x16384x256 : Shape := ⟨3, ![1, 16384, 256]⟩
abbrev S3x16384x256 : Shape := ⟨3, ![3, 16384, 256]⟩
abbrev S_ : Shape := ⟨0, ![]⟩
abbrev S16384x2048 : Shape := ⟨2, ![16384, 2048]⟩
abbrev S16384 : Shape := ⟨1, ![16384]⟩
abbrev S16384x1 : Shape := ⟨2, ![16384, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16384x128, .f32⟩
  | .hbm, ⟨2, _⟩ => ⟨S2x16384x128, .f32⟩
  | .hbm, ⟨3, _⟩ => ⟨S2x16384x128, .f32⟩
  | .hbm, ⟨4, _⟩ => ⟨S2x16384x128, .f32⟩
  | .hbm, ⟨5, _⟩ => ⟨S2x16384x128, .f32⟩
  | .hbm, ⟨6, _⟩ => ⟨S2x16384x128, .f32⟩
  | .hbm, ⟨7, _⟩ => ⟨S16384x512, .f32⟩
  | .hbm, ⟨8, _⟩ => ⟨S16384x5120, .f32⟩
  | .hbm, ⟨9, _⟩ => ⟨S256x1024, .f32⟩
  | .hbm, ⟨10, _⟩ => ⟨S512x2048, .f32⟩
  | .hbm, ⟨11, _⟩ => ⟨S1024x1024, .f32⟩
  | .hbm, ⟨12, _⟩ => ⟨S1024, .f32⟩
  | .hbm, ⟨13, _⟩ => ⟨S16384x2x128, .f32⟩
  | .hbm, ⟨14, _⟩ => ⟨S16384x256, .f32⟩
  | .hbm, ⟨15, _⟩ => ⟨S16384x2x128, .f32⟩
  | .hbm, ⟨16, _⟩ => ⟨S16384x256, .f32⟩
  | .hbm, ⟨17, _⟩ => ⟨S16384x2x128, .f32⟩
  | .hbm, ⟨18, _⟩ => ⟨S16384x256, .f32⟩
  | .hbm, ⟨19, _⟩ => ⟨S16384x2x128, .f32⟩
  | .hbm, ⟨20, _⟩ => ⟨S16384x256, .f32⟩
  | .hbm, ⟨21, _⟩ => ⟨S16384x2x128, .f32⟩
  | .hbm, ⟨22, _⟩ => ⟨S16384x256, .f32⟩
  | .hbm, ⟨23, _⟩ => ⟨S16384x2x128, .f32⟩
  | .hbm, ⟨24, _⟩ => ⟨S16384x256, .f32⟩
  | .hbm, ⟨25, _⟩ => ⟨S1x16384x256, .f32⟩
  | .hbm, ⟨26, _⟩ => ⟨S1x16384x256, .f32⟩
  | .hbm, ⟨27, _⟩ => ⟨S1x16384x256, .f32⟩
  | .hbm, ⟨28, _⟩ => ⟨S3x16384x256, .f32⟩
  | .hbm, ⟨29, _⟩ => ⟨S_, .f32⟩
  | .hbm, ⟨30, _⟩ => ⟨S16384x256, .f32⟩
  | .hbm, ⟨31, _⟩ => ⟨S_, .f32⟩
  | .hbm, ⟨32, _⟩ => ⟨S16384x256, .f32⟩
  | .hbm, ⟨33, _⟩ => ⟨S16384x256, .f32⟩
  | .hbm, ⟨34, _⟩ => ⟨S1x16384x256, .f32⟩
  | .hbm, ⟨35, _⟩ => ⟨S3x16384x256, .f32⟩
  | .hbm, ⟨36, _⟩ => ⟨S3x16384x256, .f32⟩
  | .hbm, ⟨37, _⟩ => ⟨S3x16384x256, .f32⟩
  | .hbm, ⟨38, _⟩ => ⟨S_, .f32⟩
  | .hbm, ⟨39, _⟩ => ⟨S16384x256, .f32⟩
  | .hbm, ⟨40, _⟩ => ⟨S1x16384x256, .f32⟩
  | .hbm, ⟨41, _⟩ => ⟨S3x16384x256, .f32⟩
  | .hbm, ⟨42, _⟩ => ⟨S3x16384x256, .f32⟩
  | .hbm, ⟨43, _⟩ => ⟨S1x16384x256, .f32⟩
  | .hbm, ⟨44, _⟩ => ⟨S1x16384x256, .f32⟩
  | .hbm, ⟨45, _⟩ => ⟨S1x16384x256, .f32⟩
  | .hbm, ⟨46, _⟩ => ⟨S3x16384x256, .f32⟩
  | .hbm, ⟨47, _⟩ => ⟨S3x16384x256, .f32⟩
  | .hbm, ⟨48, _⟩ => ⟨S_, .f32⟩
  | .hbm, ⟨49, _⟩ => ⟨S16384x256, .f32⟩
  | .hbm, ⟨50, _⟩ => ⟨S16384x2048, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S16384x1, .f32⟩
  | .hbm, ⟨97, _⟩ => ⟨S16384x1024, .f32⟩
  | .hbm, ⟨98, _⟩ => ⟨S16384x1024, .f32⟩
  | .hbm, ⟨99, _⟩ => ⟨S1x1024, .f32⟩
  | .hbm, ⟨100, _⟩ => ⟨S16384x1024, .f32⟩
  | .hbm, ⟨101, _⟩ => ⟨S16384x1024, .f32⟩
  | .hbm, ⟨102, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Proof.Soft.lean ====
/- The softmax of a masked row of scores over the extended reals: the division form and the
   log-sum-exp form of its weights are the same numbers. -/
module

public import Idealize.ShloMosaic.Lib.Pointwise

@[expose] public section

noncomputable section

namespace Cert.Soft

open Idealize.ShloMosaic

variable {n : ℕ}

/-- The maximum of a row of scores. -/
def mx (s : Fin n → EReal) : EReal := Finset.univ.fold max ⊥ s

/-- The sum of the exponentials of the scores, each less the maximum. -/
def tot (s : Fin n → EReal) : EReal := ∑ k, Ideal.exp (s k - mx s)

/-- The log-sum-exp of a row of scores. -/
def lse (s : Fin n → EReal) : EReal := mx s + Ideal.log (tot s)

/-- A row of scores that a softmax reads well: every score is a real or masked, and one is a real. -/
structure Row (s : Fin n → EReal) : Prop where
  ne_top : ∀ k, s k ≠ ⊤
  some_real : ∃ k, s k ≠ ⊥

/-- The maximum of a good row is a real. -/
theorem mx_real {s : Fin n → EReal} (h : Row s) : ∃ r : ℝ, mx s = (r : EReal) := by
  have hmx : mx s = Finset.univ.sup s := rfl
  obtain ⟨k, hk⟩ := h.some_real
  have hle : s k ≤ mx s := by rw [hmx]; exact Finset.le_sup (Finset.mem_univ k)
  have hb : mx s ≠ ⊥ := fun h0 => hk (le_bot_iff.mp (h0 ▸ hle))
  have ht : mx s ≠ ⊤ := by
    have : mx s < ⊤ := by
      rw [hmx, Finset.sup_lt_iff (by exact bot_lt_top)]
      exact fun j _ => lt_top_iff_ne_top.mpr (h.ne_top j)
    exact this.ne
  exact ⟨(mx s).toReal, (EReal.coe_toReal ht hb).symm⟩

/-- The exponential of a real, as the real it is. -/
theorem exp_coe (x : ℝ) : Ideal.exp (x : EReal) = ((Real.exp x : ℝ) : EReal) := rfl

/-- Each exponential of a good row, less its maximum, is a real that is not negative. -/
theorem exp_real {s : Fin n → EReal} (h : Row s) (k : Fin n) : ∃ r : ℝ, 0 ≤ r ∧ Ideal.exp (s k - mx s) = (r : EReal) := by
  obtain ⟨M, hM⟩ := mx_real h
  rcases eq_or_ne (s k) ⊥ with hk | hk
  · exact ⟨0, le_rfl, by rw [hk, hM]; rfl⟩
  · refine ⟨Real.exp ((s k).toReal - M), (Real.exp_pos _).le, ?_⟩
    rw [hM, ← EReal.coe_toReal (h.ne_top k) hk, ← EReal.coe_sub, exp_coe, EReal.toReal_coe]

/-- The sum of the exponentials of a good row is a positive real. -/
theorem tot_real {s : Fin n → EReal} (h : Row s) : ∃ T : ℝ, 0 < T ∧ tot s = (T : EReal) := by
  choose r hr0 hr using exp_real h
  refine ⟨∑ k, r k, ?_, ?_⟩
  · obtain ⟨k, hk⟩ := h.some_real
    obtain ⟨M, hM⟩ := mx_real h
    refine lt_of_lt_of_le ?_ (Finset.single_le_sum (fun j _ => hr0 j) (Finset.mem_univ k))
    have := hr k
    rw [hM, ← EReal.coe_toReal (h.ne_top k) hk, ← EReal.coe_sub, exp_coe] at this
    rw [← EReal.coe_eq_coe_iff.mp this]; exact Real.exp_pos _
  · unfold tot
    rw [Finset.sum_congr rfl fun k _ => hr k]
    exact (map_sum (⟨⟨Real.toEReal, EReal.coe_zero⟩, EReal.coe_add⟩ : ℝ →+ EReal) r Finset.univ).symm

/-- The weight of a key: its exponential times the reciprocal of the total is the exponential of its score
    less the log-sum-exp. -/
theorem weight_eq {s : Fin n → EReal} (h : Row s) (k : Fin n) :
    Ideal.exp (s k - mx s) * Ideal.div 1 (tot s) = Ideal.exp (s k - lse s) := by
  obtain ⟨M, hM⟩ := mx_real h
  obtain ⟨T, hT0, hT⟩ := tot_real h
  have hlog : Ideal.log (T : EReal) = ((Real.log T : ℝ) : EReal) := by
    show (if T ≤ 0 then ⊥ else ((Real.log T : ℝ) : EReal)) = _
    rw [if_neg (not_le.mpr hT0)]
  have hl : lse s = ((M + Real.log T : ℝ) : EReal) := by rw [lse, hM, hT, hlog, EReal.coe_add]
  have hdiv : Ideal.div 1 (T : EReal) = ((T⁻¹ : ℝ) : EReal) := by
    rw [Ideal.div, if_neg (by exact_mod_cast hT0.ne'), one_mul, EReal.coe_inv]
  rw [hl, hM, hT, hdiv]
  rcases eq_or_ne (s k) ⊥ with hk | hk
  · rw [hk]
    show (0 : EReal) * _ = 0
    rw [zero_mul]
  · rw [← EReal.coe_toReal (h.ne_top k) hk, ← EReal.coe_sub, ← EReal.coe_sub, exp_coe, exp_coe, ← EReal.coe_mul]
    congr 1
    rw [show (s k).toReal - (M + Real.log T) = ((s k).toReal - M) + -Real.log T by ring, Real.exp_add, Real.exp_neg,
      Real.exp_log hT0]

/-- A masked key has no weight. -/
theorem exp_bot {s : Fin n → EReal} (h : Row s) {k : Fin n} (hk : s k = ⊥) : Ideal.exp (s k - lse s) = 0 := by
  obtain ⟨M, hM⟩ := mx_real h
  rw [hk]
  show Ideal.exp (⊥ - lse s) = 0
  rw [EReal.bot_sub]; rfl

/-- THE ROW'S OUTPUT. The weights by division against the values `v`, and the weights by log-sum-exp against
    values `v'` that are the same wherever a key is not masked, sum to the same output. -/
theorem out_eq {s : Fin n → EReal} (h : Row s) (v v' : Fin n → EReal) (hv : ∀ k, s k ≠ ⊥ → v k = v' k) :
    ∑ k, (Ideal.exp (s k - mx s) * Ideal.div 1 (tot s)) * v k = ∑ k, v' k * Ideal.exp (s k - lse s) := by
  refine Finset.sum_congr rfl fun k _ => ?_
  rw [weight_eq h, mul_comm]
  by_cases hk : s k = ⊥
  · rw [exp_bot h hk, mul_zero, mul_zero]
  · rw [hv k hk]

end Cert.Soft

end
-- ==== Proof.Tile.lean ====
/- One block of the banded attention: 128 queries of two heads against 256 keys, as the vector operations
   of the kernel's body spell it, read at an index. -/
module

public import proofs.«01_k».proof.Proof.Gen.Band1Ideal.Skeleton
public import proofs.«01_k».proof.Proof.Soft
public import Idealize.ShloMosaic.Lib.Pointwise

@[expose] public section

set_option maxRecDepth 16384

noncomputable section

namespace Cert.Tile

open Idealize.ShloMosaic Cert.Band1Ideal Cert.Band1Ideal.Gen

/-- The masked scores of one head, whose lanes begin at `a`. -/
def scores (neg : Ideal .f32) (ok : IVec S128x256 1) (q : FVec Ideal S128x64 .bf16) (k : FVec Ideal S256x64 .bf16) : FVec Ideal S128x256 .f32 :=
  select ok (divf (matmul dot_S128x64_S256x64_S128x256_1_1_0_0_n_n none q k (constant S128x256 .f32 0x00000000#32))
    (broadcast S128x256 (Scalar.ofBits .f32 0x41000000#32))) (broadcast S128x256 neg)

/-- The maximum of each row of scores. -/
def rowMax (s : FVec Ideal S128x256 .f32) : FVec Ideal S128x1 .f32 :=
  shapeCast S128x1 (multiReduction .maximumf [1] S128 s 0xFF800000#32 reduces_S128x256_S128 (.inl rfl) rfl) shapeCasts_S128_S128x1

/-- The exponentials of the scores, each less its row's maximum. -/
def expo (s : FVec Ideal S128x256 .f32) : FVec Ideal S128x256 .f32 :=
  exp (subf s (broadcastTo S128x256 (rowMax s) broadcasts_S128x1_S128x256))

/-- The total of each row of exponentials. -/
def total (s : FVec Ideal S128x256 .f32) : FVec Ideal S128x1 .f32 :=
  shapeCast S128x1 (multiReduction .add [1] S128 (expo s) 0x00000000#32 reduces_S128x256_S128 (.inl rfl) rfl) shapeCasts_S128_S128x1

/-- The output of one head. -/
def headOut (s : FVec Ideal S128x256 .f32) (v : FVec Ideal S256x64 .bf16) : FVec Ideal S128x64 .f32 :=
  matmul dot_S128x256_S256x64_S128x64_1_0_0_1_n_n none
    (truncf .bf16 (mulf (expo s) (broadcastTo S128x256 (divf (broadcast S128x1 (Scalar.ofBits .f32 0x3F800000#32)) (total s)) broadcasts_S128x1_S128x256)) bitsLt_bf16_f32)
    v (constant S128x64 .f32 0x00000000#32)

/-- The log-sum-exp of one head, broadcast over its lanes. -/
def headLse (s : FVec Ideal S128x256 .f32) : FVec Ideal S128x64 .f32 :=
  broadcastTo S128x64 (shapeCast S128x1 (addf (rowMax s) (log (total s))) shapeCasts_S128x1_S128x1) broadcasts_S128x1_S128x64

/-- Two blocks of keys (or values), one under the other. -/
def stack (x y : FVec Ideal S128x128 .f32) : FVec Ideal S256x128 .bf16 :=
  truncf .bf16 (concatenate S256x128 0 [⟨S128x128, x⟩, ⟨S128x128, y⟩] concatenates_S128x128_S128x128_S256x128_d0) bitsLt_bf16_f32

/-- The scores of the first head of the pair. -/
def scoresL (neg : Ideal .f32) (ok : IVec S128x256 1) (q k0 k1 : FVec Ideal S128x128 .f32) : FVec Ideal S128x256 .f32 :=
  scores neg ok (extractStridedSlice S128x64 ![0, 0] (truncf .bf16 q bitsLt_bf16_f32) slices_S128x128_o0_0_S128x64)
    (extractStridedSlice S256x64 ![0, 0] (stack k0 k1) slices_S256x128_o0_0_S256x64)

/-- The scores of the second head of the pair. -/
def scoresR (neg : Ideal .f32) (ok : IVec S128x256 1) (q k0 k1 : FVec Ideal S128x128 .f32) : FVec Ideal S128x256 .f32 :=
  scores neg ok (extractStridedSlice S128x64 ![0, 64] (truncf .bf16 q bitsLt_bf16_f32) slices_S128x128_o0_64_S128x64)
    (extractStridedSlice S256x64 ![0, 64] (stack k0 k1) slices_S256x128_o0_64_S256x64)

/-- The block of outputs the body stores: the two heads beside each other. -/
def outT (neg : Ideal .f32) (ok : IVec S128x256 1) (q k0 k1 v0 v1 : FVec Ideal S128x128 .f32) : FVec Ideal S1x128x128 .f32 :=
  shapeCast S1x128x128 (concatenate S128x128 1
    [⟨S128x64, headOut (scoresL neg ok q k0 k1) (extractStridedSlice S256x64 ![0, 0] (stack v0 v1) slices_S256x128_o0_0_S256x64)⟩,
     ⟨S128x64, headOut (scoresR neg ok q k0 k1) (extractStridedSlice S256x64 ![0, 64] (stack v0 v1) slices_S256x128_o0_64_S256x64)⟩]
    concatenates_S128x64_S128x64_S128x128_d1) shapeCasts_S128x128_S1x128x128

/-- The block of log-sum-exps the body stores. -/
def lseT (neg : Ideal .f32) (ok : IVec S128x256 1) (q k0 k1 : FVec Ideal S128x128 .f32) : FVec Ideal S1x128x128 .f32 :=
  shapeCast S1x128x128 (concatenate S128x128 1
    [⟨S128x64, headLse (scoresL neg ok q k0 k1)⟩, ⟨S128x64, headLse (scoresR neg ok q k0 k1)⟩]
    concatenates_S128x64_S128x64_S128x128_d1) shapeCasts_S128x128_S1x128x128

/-- Row `r` of a block of scores, as a function of the key. -/
def row (s : FVec Ideal S128x256 .f32) (r : Fin 128) : Fin 256 → EReal := fun k => s (ix2 r k)

/-- Key `k` of two stacked blocks, at a lane. -/
def at2 (x y : FVec Ideal S128x128 .f32) (k : Fin 256) (c : Fin 128) : EReal :=
  if h : (k : ℕ) < 128 then x (ix2 ⟨k, h⟩ c) else y (ix2 ⟨k - 128, by omega⟩ c)

/-- The score of query `r` against key `k`, of the head that lane `c` belongs to. -/
def score (neg : EReal) (ok : IVec S128x256 1) (q k0 k1 : FVec Ideal S128x128 .f32) (r c : Fin 128) (k : Fin 256) : EReal :=
  Scalar.select (ok (ix2 r k)) (Ideal.div (∑ d : Fin 64, q (ix2 r ⟨(c : ℕ) / 64 * 64 + d, by omega⟩) * at2 k0 k1 k ⟨(c : ℕ) / 64 * 64 + d, by omega⟩)
    (Ideal.ofBits .f32 0x41000000#32)) neg

theorem stack_at (x y : FVec Ideal S128x128 .f32) (k : Fin 256) (c : Fin 128) : stack x y (ix2 k c) = at2 x y k c := by
  pointwise [stack, at2]

theorem rowMax_at (s : FVec Ideal S128x256 .f32) (r : Fin 128) : rowMax s (ix2 r 0) = Soft.mx (row s r) := by
  have hbot : Ideal.ofBits .f32 0xFF800000#32 = ⊥ := by simp [Ideal.ofBits, Ideal.ieee]
  pointwise [rowMax, Soft.mx, row]
  rw [hbot]

theorem expo_at (s : FVec Ideal S128x256 .f32) (r : Fin 128) (k : Fin 256) : expo s (ix2 r k) = Ideal.exp (row s r k - Soft.mx (row s r)) := by
  pointwise [expo, rowMax_at]
  rfl

theorem total_at (s : FVec Ideal S128x256 .f32) (r : Fin 128) : total s (ix2 r 0) = Soft.tot (row s r) := by
  pointwise [total, expo_at, Soft.tot]

theorem headOut_at (s : FVec Ideal S128x256 .f32) (v : FVec Ideal S256x64 .bf16) (r : Fin 128) (d : Fin 64) :
    headOut s v (ix2 r d) = ∑ k : Fin 256, (Ideal.exp (row s r k - Soft.mx (row s r)) * Ideal.div 1 (Soft.tot (row s r))) * v (ix2 k d) := by
  pointwise [headOut, expo_at, total_at]

theorem headLse_at (s : FVec Ideal S128x256 .f32) (r : Fin 128) (d : Fin 64) : headLse s (ix2 r d) = Soft.lse (row s r) := by
  pointwise [headLse, rowMax_at, total_at, Soft.lse]

theorem scoresL_at (neg : Ideal .f32) (ok : IVec S128x256 1) (q k0 k1 : FVec Ideal S128x128 .f32) (r c : Fin 128) (hc : (c : ℕ) < 64) :
    row (scoresL neg ok q k0 k1) r = score neg ok q k0 k1 r c := by
  funext k
  have h0 : (c : ℕ) / 64 = 0 := by omega
  pointwise [row, scoresL, scores, stack_at, score, h0]

theorem scoresR_at (neg : Ideal .f32) (ok : IVec S128x256 1) (q k0 k1 : FVec Ideal S128x128 .f32) (r c : Fin 128) (hc : ¬ (c : ℕ) < 64) :
    row (scoresR neg ok q k0 k1) r = score neg ok q k0 k1 r c := by
  funext k
  have h0 : (c : ℕ) / 64 = 1 := by omega
  pointwise [row, scoresR, scores, stack_at, score, h0]

/-- The stored block of outputs at query `r` and lane `c`. -/
theorem outT_at (neg : Ideal .f32) (ok : IVec S128x256 1) (q k0 k1 v0 v1 : FVec Ideal S128x128 .f32) (o : Fin 1) (r c : Fin 128) :
    outT neg ok q k0 k1 v0 v1 (ix3 o r c) = ∑ k : Fin 256,
      (Ideal.exp (score neg ok q k0 k1 r c k - Soft.mx (score neg ok q k0 k1 r c)) * Ideal.div 1 (Soft.tot (score neg ok q k0 k1 r c))) * at2 v0 v1 k c := by
  pointwise [outT, headOut_at, stack_at]
  by_cases hc : (c : ℕ) < 64
  · simp only [dif_pos hc, scoresL_at neg ok q k0 k1 r c hc]
  · simp only [dif_neg hc, scoresR_at neg ok q k0 k1 r c hc]
    have : (⟨64 + ((c : ℕ) - 64), by omega⟩ : Fin 128) = c := Fin.ext (show 64 + ((c : ℕ) - 64) = c by omega)
    simp only [this]

/-- The stored block of log-sum-exps at query `r` and lane `c`. -/
theorem lseT_at (neg : Ideal .f32) (ok : IVec S128x256 1) (q k0 k1 : FVec Ideal S128x128 .f32) (o : Fin 1) (r c : Fin 128) :
    lseT neg ok q k0 k1 (ix3 o r c) = Soft.lse (score neg ok q k0 k1 r c) := by
  pointwise [lseT, headLse_at]
  by_cases hc : (c : ℕ) < 64
  · simp only [dif_pos hc, scoresL_at neg ok q k0 k1 r c hc]
  · simp only [dif_neg hc, scoresR_at neg ok q k0 k1 r c hc]

end Cert.Tile

end
-- ==== Proof.BandSpec.lean ====
/- The banded, dilated attention of one head group as mathematics over the projected rows `z`: row `R` of the
   packed projections attends to 256 key positions `dilation` apart, the last 128 before it and itself unmasked. -/
module

public import proofs.«01_k».proof.Proof.Tile
public import Idealize.ShloMosaic.Lib.WordCmp

@[expose] public section

set_option maxRecDepth 16384

noncomputable section

namespace Cert.Band

open Idealize.ShloMosaic

/-- The shape of the packed projections. -/
abbrev SZ : Shape := ⟨2, ![16384, 5120]⟩

/-- The projections read at a row and a column given as numbers. -/
def rd (z : FVec Ideal SZ .f32) (a b : ℕ) : EReal := if h : a < 16384 ∧ b < 5120 then z (ix2 ⟨a, h.1⟩ ⟨b, h.2⟩) else 0

theorem rd_of (z : FVec Ideal SZ .f32) (a : Fin 16384) (b : Fin 5120) : rd z a b = z (ix2 a b) := by
  unfold rd; rw [dif_pos ⟨a.isLt, b.isLt⟩]

theorem rd_at (z : FVec Ideal SZ .f32) (a b : ℕ) (ha : a < 16384) (hb : b < 5120) : rd z a b = z (ix2 ⟨a, ha⟩ ⟨b, hb⟩) := by
  unfold rd; rw [dif_pos ⟨ha, hb⟩]

/-- Key position `k` of row `R` is unmasked: in the band of 129 keys, and not before the sequence's first row. -/
def okKey (D R k : ℕ) : Prop :=
  R % (128 * D) / D ≤ k ∧ k ≤ R % (128 * D) / D + 128 ∧ (128 ≤ k ∨ R % 8192 / (128 * D) ≠ 0)

instance (D R k : ℕ) : Decidable (okKey D R k) := inferInstanceAs (Decidable (_ ∧ _ ∧ _))

/-- The row of key position `k` of row `R` (meant where the key is unmasked). -/
def keyRow (D R k : ℕ) : ℕ := R / (128 * D) * (128 * D) + k * D + R % D - 128 * D

/-- The masked scores of row `R`, of the head that lane `c` of the pair `p` of group `g` belongs to. -/
def sc (D g : ℕ) (z : FVec Ideal SZ .f32) (p R c : ℕ) (k : Fin 256) : EReal :=
  if okKey D R k then
    Ideal.div (∑ d : Fin 64, rd z R (256 * g + 128 * p + c / 64 * 64 + d) * rd z (keyRow D R k) (768 + 256 * g + 128 * p + c / 64 * 64 + d))
      (Ideal.ofBits .f32 0x41000000#32)
  else ⊥

/-- The attention's output at row `R` and lane `c` of the pair `p`. -/
def out (D g : ℕ) (z : FVec Ideal SZ .f32) (p R c : ℕ) : EReal :=
  ∑ k : Fin 256, rd z (keyRow D R k) (1536 + 256 * g + 128 * p + c) * Ideal.exp (sc D g z p R c k - Soft.lse (sc D g z p R c))

/-- Every projected value is a real. -/
def Finite (z : FVec Ideal SZ .f32) : Prop := ∀ i, ∃ r : ℝ, z i = (r : EReal)

theorem rd_real {z : FVec Ideal SZ .f32} (h : Finite z) (a b : ℕ) : ∃ r : ℝ, rd z a b = (r : EReal) := by
  unfold rd
  split
  · exact h _
  · exact ⟨0, rfl⟩

/-- A finite sum of products of reals is a real. -/
theorem sum_mul_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  rw [Finset.sum_congr rfl fun k _ => by rw [ha k, hb k, ← EReal.coe_mul]]
  exact (map_sum (⟨⟨Real.toEReal, EReal.coe_zero⟩, EReal.coe_add⟩ : ℝ →+ EReal) (fun k => a k * b k) Finset.univ).symm

theorem eight : Ideal.ofBits .f32 0x41000000#32 = ((8 : ℝ) : EReal) := by
  simp [Ideal.ofBits, Ideal.ieee, -EReal.coe_mul]; norm_num

/-- A real over eight is a real. -/
theorem div_eight_real {x : EReal} (h : ∃ r : ℝ, x = (r : EReal)) : ∃ r : ℝ, Ideal.div x (Ideal.ofBits .f32 0x41000000#32) = (r : EReal) := by
  obtain ⟨r, rfl⟩ := h
  refine ⟨r * (8 : ℝ)⁻¹, ?_⟩
  rw [eight, Ideal.div, if_neg (by norm_num), EReal.coe_mul, EReal.coe_inv]

/-- The scores of a row of real projections are a good row for the softmax: the row itself is one of its keys. -/
theorem sc_row {z : FVec Ideal SZ .f32} (h : Finite z) (D g p R c : ℕ) (hD : 0 < D) : Soft.Row (sc D g z p R c) where
  ne_top k := by
    unfold sc
    split
    · obtain ⟨r, hr⟩ := div_eight_real (sum_mul_real _ _ (fun d => rd_real h R _) (fun d => rd_real h (keyRow D R k) _))
      rw [hr]; exact EReal.coe_ne_top r
    · exact bot_ne_top
  some_real := by
    have hq : R % (128 * D) / D < 128 := Nat.div_lt_of_lt_mul (by rw [mul_comm D]; exact Nat.mod_lt _ (by omega))
    refine ⟨⟨R % (128 * D) / D + 128, by omega⟩, ?_⟩
    unfold sc
    rw [if_pos ⟨Nat.le_add_right _ _, le_rfl, Or.inl (Nat.le_add_left _ _)⟩]
    obtain ⟨r, hr⟩ := div_eight_real (sum_mul_real _ _ (fun d : Fin 64 => rd_real h R (256 * g + 128 * p + c / 64 * 64 + d))
      (fun d => rd_real h (keyRow D R (R % (128 * D) / D + 128)) (768 + 256 * g + 128 * p + c / 64 * 64 + d)))
    rw [hr]; exact EReal.coe_ne_bot r

/-- The output with other values at the masked keys is the same output. -/
theorem out_congr {z : FVec Ideal SZ .f32} (h : Finite z) (D g p R c : ℕ) (hD : 0 < D) (v : Fin 256 → EReal)
    (hv : ∀ k : Fin 256, okKey D R k → v k = rd z (keyRow D R k) (1536 + 256 * g + 128 * p + c)) :
    ∑ k, v k * Ideal.exp (sc D g z p R c k - Soft.lse (sc D g z p R c)) = out D g z p R c := by
  refine Finset.sum_congr rfl fun k _ => ?_
  by_cases hk : okKey D R k
  · rw [hv k hk]
  · rw [Soft.exp_bot (sc_row h D g p R c hD) (show sc D g z p R c k = ⊥ by unfold sc; rw [if_neg hk]), mul_zero, mul_zero]

open Cert.Band1Ideal in
/-- What one block of the kernel's body reads: row `r` of the block's queries, keys, values and mask are those of row
    `R` of the projections. -/
structure Good (D g : ℕ) (z : FVec Ideal SZ .f32) (p R : ℕ) (ok : IVec S128x256 1) (q k0 k1 v0 v1 : FVec Ideal S128x128 .f32) (r : Fin 128) : Prop where
  hok : ∀ k : Fin 256, ok (ix2 r k) = BitVec.ofBool (decide (okKey D R k))
  hq : ∀ c : Fin 128, q (ix2 r c) = rd z R (256 * g + 128 * p + c)
  hk : ∀ (k : Fin 256) (c : Fin 128), okKey D R k → Tile.at2 k0 k1 k c = rd z (keyRow D R k) (768 + 256 * g + 128 * p + c)
  hv : ∀ (k : Fin 256) (c : Fin 128), okKey D R k → Tile.at2 v0 v1 k c = rd z (keyRow D R k) (1536 + 256 * g + 128 * p + c)

open Cert.Band1Ideal

variable {D g : ℕ} {z : FVec Ideal SZ .f32} {p R : ℕ} {ok : IVec S128x256 1} {q k0 k1 v0 v1 : FVec Ideal S128x128 .f32} {r : Fin 128}

theorem Good.score_eq (G : Good D g z p R ok q k0 k1 v0 v1 r) (c : Fin 128) : Tile.score ⊥ ok q k0 k1 r c = sc D g z p R c := by
  funext k
  unfold Tile.score sc
  rw [G.hok k, Scalar.select_ofBool]
  by_cases hk : okKey D R k
  · rw [if_pos hk, decide_eq_true hk]
    simp only [if_true]
    refine congrArg (Ideal.div · _) (Finset.sum_congr rfl fun d _ => ?_)
    rw [G.hq, G.hk k _ hk]
    simp only [Nat.add_assoc]
  · rw [if_neg hk, decide_eq_false hk]; rfl

/-- The block of outputs stores the attention's output. -/
theorem Good.out_eq (G : Good D g z p R ok q k0 k1 v0 v1 r) (h : Finite z) (hD : 0 < D) (o : Fin 1) (c : Fin 128) :
    Tile.outT ⊥ ok q k0 k1 v0 v1 (ix3 o r c) = out D g z p R c := by
  rw [Tile.outT_at, G.score_eq, Soft.out_eq (sc_row h D g p R c hD) _ (fun k => Tile.at2 v0 v1 k c) (fun _ _ => rfl)]
  exact out_congr h D g p R c hD _ fun k hk => G.hv k c hk

/-- The block of log-sum-exps stores the attention's log-sum-exp. -/
theorem Good.lse_eq (G : Good D g z p R ok q k0 k1 v0 v1 r) (o : Fin 1) (c : Fin 128) :
    Tile.lseT ⊥ ok q k0 k1 (ix3 o r c) = Soft.lse (sc D g z p R c) := by
  rw [Tile.lseT_at, G.score_eq]

/-- The band's mask word: query `a` of a block against key `k` of the two blocks it reads. -/
theorem band_word (a k : ℕ) (ha : a < 128) (hk : k < 256) :
    IntOp.andi (IntOp.cmpi .sge (IntOp.subi (IntOp.addi (BitVec.ofNat 32 a) 128#32) (BitVec.ofNat 32 k)) 0#32)
      (IntOp.cmpi .sle (IntOp.subi (IntOp.addi (BitVec.ofNat 32 a) 128#32) (BitVec.ofNat 32 k)) 128#32)
      = BitVec.ofBool (decide (a ≤ k ∧ k ≤ a + 128)) := by
  have hx : (IntOp.subi (IntOp.addi (BitVec.ofNat 32 a) 128#32) (BitVec.ofNat 32 k)).toInt = (a : ℤ) + 128 - k := by
    have ea : (BitVec.ofNat 32 a).toInt = a := WordCmp.toInt_ofNat_of_lt (by omega)
    have ek : (BitVec.ofNat 32 k).toInt = k := WordCmp.toInt_ofNat_of_lt (by omega)
    have e8 : (128#32).toInt = 128 := by decide
    simp only [IntOp.subi, IntOp.addi, BitVec.toInt_sub, BitVec.toInt_add, ea, ek, e8, Int.bmod]
    omega
  have h1 : IntOp.cmpi .sge (IntOp.subi (IntOp.addi (BitVec.ofNat 32 a) 128#32) (BitVec.ofNat 32 k)) 0#32 = BitVec.ofBool (decide (k ≤ a + 128)) := by
    unfold IntOp.cmpi
    simp only [BitVec.sle, hx]
    congr 1
    simp
    omega
  have h2 : IntOp.cmpi .sle (IntOp.subi (IntOp.addi (BitVec.ofNat 32 a) 128#32) (BitVec.ofNat 32 k)) 128#32 = BitVec.ofBool (decide (a ≤ k)) := by
    unfold IntOp.cmpi
    simp only [BitVec.sle, hx]
    congr 1
    simp
    omega
  rw [h1, h2, WordCmp.andi_ofBool]
  congr 1
  rw [Bool.and_comm, Bool.decide_and]

end Cert.Band

end
-- ==== Proof.Band1Value.lean ====
/- The dilation-1 attention kernel: where its windows' blocks lie, and its mask words. -/
module

public import proofs.«01_k».proof.Proof.Gen.Band1Ideal.Value
public import proofs.«01_k».proof.Proof.BandSpec
public import Idealize.ShloMosaic.Lib.Pipeline.ValueKit
public import Idealize.ShloMosaic.Lib.Pointwise

@[expose] public section

set_option maxRecDepth 16384

noncomputable section

namespace Cert.Band1Ideal.Band

open Idealize.ShloMosaic Idealize.ShloMosaic.TcCoe Idealize.SL.Sem
open Cert.Band1Ideal Cert.Band1Ideal.Gen

variable (m : (ℓ : Loc nD τ sig) → Buf (Elt Ideal) ℓ)

/-- The projected rows, as launched. -/
abbrev Z (c : Dev nD) : FVec Ideal Cert.Band.SZ .f32 := m ((c : Thread nD τ).loc main_arg0)

/-- Where each window's block lies, at every grid point. -/
theorem idx : ∀ t : Fin cfg0.N,
    win0_0.index t = ![t.val, 0] ∧ win0_1.index t = ![t.val, 1]
    ∧ win0_2.index t = ![4 * t.val - min (t.val % 16) 1, 6] ∧ win0_3.index t = ![4 * t.val - min (t.val % 16) 1, 7]
    ∧ win0_4.index t = ![t.val, 6] ∧ win0_5.index t = ![t.val, 7]
    ∧ win0_6.index t = ![4 * t.val - min (t.val % 16) 1, 12] ∧ win0_7.index t = ![4 * t.val - min (t.val % 16) 1, 13]
    ∧ win0_8.index t = ![t.val, 12] ∧ win0_9.index t = ![t.val, 13]
    ∧ win0_10.index t = ![0, t.val, 0] ∧ win0_11.index t = ![0, t.val, 0]
    ∧ (grid0.coords t 1).val = t.val % 16 :=
  (by decide +kernel : ∀ t : Fin grid0.N, _)

theorem named_mask : (Named.named κ "mask" 0xF149F2CA#32 : Ideal .f32) = ⊥ := IdealRules.named_const.ideal_named_scalar _ _ _ _ rfl

/-- The mask away from a sequence's first block. -/
theorem mask_at (r : Fin 128) (k : Fin 256) : k0_pay7 (ix2 r k) = BitVec.ofBool (decide ((r : ℕ) ≤ k ∧ (k : ℕ) ≤ r + 128)) := by
  pointwise [k0_pay7]
  exact Cert.Band.band_word r k r.isLt k.isLt

/-- The mask of a point's first block. -/
theorem first_mask_at (t : Fin cfg0.N) (r : Fin 128) (k : Fin 256) :
    k0_pay8 (grid0.coords t) (ix2 r k) = BitVec.ofBool (decide (((r : ℕ) ≤ k ∧ (k : ℕ) ≤ r + 128) ∧ (128 ≤ (k : ℕ) ∨ t.val % 16 ≠ 0))) := by
  have h1 : (grid0.coords t 1).val = t.val % 16 := (idx t).2.2.2.2.2.2.2.2.2.2.2.2
  pointwise [k0_pay8, mask_at]
  rw [h1, WordCmp.cmpi_sge_ofNat (by omega) (by omega)]
  unfold Scalar.cmpi
  rw [WordCmp.cmpi_sgt_ofNat (by omega) (by omega), WordCmp.ori_ofBool, WordCmp.andi_ofBool]
  refine congrArg BitVec.ofBool ?_
  rw [← Bool.decide_or, ← Bool.decide_and, decide_eq_decide]
  omega

end Cert.Band1Ideal.Band

end
-- ==== Proof.Band1Pair0.lean ====
/- The dilation-1 attention kernel, head pair 0: the four blocks of queries a grid point attends for, each with the
   keys, values and mask it reads, are those rows of the projections. -/
module

public import proofs.«01_k».proof.Proof.Band1Value

@[expose] public section

set_option maxRecDepth 16384

noncomputable section

namespace Cert.Band1Ideal.Band

open Idealize.ShloMosaic Idealize.ShloMosaic.TcCoe Idealize.SL.Sem
open Cert.Band1Ideal Cert.Band1Ideal.Gen

variable (m : (ℓ : Loc nD τ sig) → Buf (Elt Ideal) ℓ)

/-- Block 0 of a point, head pair 0. -/
theorem good00 (c : Dev nD) (t : Fin cfg0.N) (r : Fin 128) :
    Cert.Band.Good 1 0 (Z m c) 0 (512 * t.val + 0 + r) (k0_pay8 (grid0.coords t)) (View.ld (iblk m c 0 t) r0_1) (View.ld (iblk m c 2 t) r0_0) (View.ld (iblk m c 4 t) r0_1) (View.ld (iblk m c 6 t) r0_0) (View.ld (iblk m c 8 t) r0_1) r where
  hok k := by
    have ht : t.val < 32 := lt_of_lt_of_eq t.isLt N_0
    rw [first_mask_at t r k]
    exact congrArg BitVec.ofBool (decide_eq_decide.mpr (by unfold Cert.Band.okKey; omega))
  hq a := by
    have ht : t.val < 32 := lt_of_lt_of_eq t.isLt N_0
    rw [Cert.Band.rd_at _ _ _ (by omega) (by omega)]
    pointwise
    blk_point [iblk, V, idx t]
  hk k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])
  hv k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])

/-- Block 1 of a point, head pair 0. -/
theorem good01 (c : Dev nD) (t : Fin cfg0.N) (r : Fin 128) :
    Cert.Band.Good 1 0 (Z m c) 0 (512 * t.val + 128 + r) k0_pay7 (View.ld (iblk m c 0 t) r0_3) (View.ld (iblk m c 4 t) r0_1) (View.ld (iblk m c 4 t) r0_3) (View.ld (iblk m c 8 t) r0_1) (View.ld (iblk m c 8 t) r0_3) r where
  hok k := by
    have ht : t.val < 32 := lt_of_lt_of_eq t.isLt N_0
    rw [mask_at r k]
    exact congrArg BitVec.ofBool (decide_eq_decide.mpr (by unfold Cert.Band.okKey; omega))
  hq a := by
    have ht : t.val < 32 := lt_of_lt_of_eq t.isLt N_0
    rw [Cert.Band.rd_at _ _ _ (by omega) (by omega)]
    pointwise
    blk_point [iblk, V, idx t]
  hk k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])
  hv k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])

/-- Block 2 of a point, head pair 0. -/
theorem good02 (c : Dev nD) (t : Fin cfg0.N) (r : Fin 128) :
    Cert.Band.Good 1 0 (Z m c) 0 (512 * t.val + 256 + r) k0_pay7 (View.ld (iblk m c 0 t) r0_5) (View.ld (iblk m c 4 t) r0_3) (View.ld (iblk m c 4 t) r0_5) (View.ld (iblk m c 8 t) r0_3) (View.ld (iblk m c 8 t) r0_5) r where
  hok k := by
    have ht : t.val < 32 := lt_of_lt_of_eq t.isLt N_0
    rw [mask_at r k]
    exact congrArg BitVec.ofBool (decide_eq_decide.mpr (by unfold Cert.Band.okKey; omega))
  hq a := by
    have ht : t.val < 32 := lt_of_lt_of_eq t.isLt N_0
    rw [Cert.Band.rd_at _ _ _ (by omega) (by omega)]
    pointwise
    blk_point [iblk, V, idx t]
  hk k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])
  hv k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])

/-- Block 3 of a point, head pair 0. -/
theorem good03 (c : Dev nD) (t : Fin cfg0.N) (r : Fin 128) :
    Cert.Band.Good 1 0 (Z m c) 0 (512 * t.val + 384 + r) k0_pay7 (View.ld (iblk m c 0 t) r0_7) (View.ld (iblk m c 4 t) r0_5) (View.ld (iblk m c 4 t) r0_7) (View.ld (iblk m c 8 t) r0_5) (View.ld (iblk m c 8 t) r0_7) r where
  hok k := by
    have ht : t.val < 32 := lt_of_lt_of_eq t.isLt N_0
    rw [mask_at r k]
    exact congrArg BitVec.ofBool (decide_eq_decide.mpr (by unfold Cert.Band.okKey; omega))
  hq a := by
    have ht : t.val < 32 := lt_of_lt_of_eq t.isLt N_0
    rw [Cert.Band.rd_at _ _ _ (by omega) (by omega)]
    pointwise
    blk_point [iblk, V, idx t]
  hk k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])
  hv k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])

end Cert.Band1Ideal.Band

end
-- ==== Proof.Band1Pair1.lean ====
/- The dilation-1 attention kernel, head pair 1: the four blocks of queries a grid point attends for, each with the
   keys, values and mask it reads, are those rows of the projections. -/
module

public import proofs.«01_k».proof.Proof.Band1Value

@[expose] public section

set_option maxRecDepth 16384

noncomputable section

namespace Cert.Band1Ideal.Band

open Idealize.ShloMosaic Idealize.ShloMosaic.TcCoe Idealize.SL.Sem
open Cert.Band1Ideal Cert.Band1Ideal.Gen

variable (m : (ℓ : Loc nD τ sig) → Buf (Elt Ideal) ℓ)

/-- Block 0 of a point, head pair 1. -/
theorem good10 (c : Dev nD) (t : Fin cfg0.N) (r : Fin 128) :
    Cert.Band.Good 1 0 (Z m c) 1 (512 * t.val + 0 + r) (k0_pay8 (grid0.coords t)) (View.ld (iblk m c 1 t) r0_1) (View.ld (iblk m c 3 t) r0_0) (View.ld (iblk m c 5 t) r0_1) (View.ld (iblk m c 7 t) r0_0) (View.ld (iblk m c 9 t) r0_1) r where
  hok k := by
    have ht : t.val < 32 := lt_of_lt_of_eq t.isLt N_0
    rw [first_mask_at t r k]
    exact congrArg BitVec.ofBool (decide_eq_decide.mpr (by unfold Cert.Band.okKey; omega))
  hq a := by
    have ht : t.val < 32 := lt_of_lt_of_eq t.isLt N_0
    rw [Cert.Band.rd_at _ _ _ (by omega) (by omega)]
    pointwise
    blk_point [iblk, V, idx t]
  hk k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])
  hv k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])

/-- Block 1 of a point, head pair 1. -/
theorem good11 (c : Dev nD) (t : Fin cfg0.N) (r : Fin 128) :
    Cert.Band.Good 1 0 (Z m c) 1 (512 * t.val + 128 + r) k0_pay7 (View.ld (iblk m c 1 t) r0_3) (View.ld (iblk m c 5 t) r0_1) (View.ld (iblk m c 5 t) r0_3) (View.ld (iblk m c 9 t) r0_1) (View.ld (iblk m c 9 t) r0_3) r where
  hok k := by
    have ht : t.val < 32 := lt_of_lt_of_eq t.isLt N_0
    rw [mask_at r k]
    exact congrArg BitVec.ofBool (decide_eq_decide.mpr (by unfold Cert.Band.okKey; omega))
  hq a := by
    have ht : t.val < 32 := lt_of_lt_of_eq t.isLt N_0
    rw [Cert.Band.rd_at _ _ _ (by omega) (by omega)]
    pointwise
    blk_point [iblk, V, idx t]
  hk k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])
  hv k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])

/-- Block 2 of a point, head pair 1. -/
theorem good12 (c : Dev nD) (t : Fin cfg0.N) (r : Fin 128) :
    Cert.Band.Good 1 0 (Z m c) 1 (512 * t.val + 256 + r) k0_pay7 (View.ld (iblk m c 1 t) r0_5) (View.ld (iblk m c 5 t) r0_3) (View.ld (iblk m c 5 t) r0_5) (View.ld (iblk m c 9 t) r0_3) (View.ld (iblk m c 9 t) r0_5) r where
  hok k := by
    have ht : t.val < 32 := lt_of_lt_of_eq t.isLt N_0
    rw [mask_at r k]
    exact congrArg BitVec.ofBool (decide_eq_decide.mpr (by unfold Cert.Band.okKey; omega))
  hq a := by
    have ht : t.val < 32 := lt_of_lt_of_eq t.isLt N_0
    rw [Cert.Band.rd_at _ _ _ (by omega) (by omega)]
    pointwise
    blk_point [iblk, V, idx t]
  hk k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])
  hv k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])

/-- Block 3 of a point, head pair 1. -/
theorem good13 (c : Dev nD) (t : Fin cfg0.N) (r : Fin 128) :
    Cert.Band.Good 1 0 (Z m c) 1 (512 * t.val + 384 + r) k0_pay7 (View.ld (iblk m c 1 t) r0_7) (View.ld (iblk m c 5 t) r0_5) (View.ld (iblk m c 5 t) r0_7) (View.ld (iblk m c 9 t) r0_5) (View.ld (iblk m c 9 t) r0_7) r where
  hok k := by
    have ht : t.val < 32 := lt_of_lt_of_eq t.isLt N_0
    rw [mask_at r k]
    exact congrArg BitVec.ofBool (decide_eq_decide.mpr (by unfold Cert.Band.okKey; omega))
  hq a := by
    have ht : t.val < 32 := lt_of_lt_of_eq t.isLt N_0
    rw [Cert.Band.rd_at _ _ _ (by omega) (by omega)]
    pointwise
    blk_point [iblk, V, idx t]
  hk k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])
  hv k a hk := by
    have ht : t.val < 32 := lt_of_lt_of_eq t.isLt N_0
    unfold Cert.Band.okKey at hk
    unfold Cert.Band.keyRow Tile.at2
    rw [Cert.Band.rd_at _ _ _ (by omega) (by omega)]
    split
    all_goals (pointwise; blk_point [iblk, V, idx t])

end Cert.Band1Ideal.Band

end
-- ==== Proof.Band1Final.lean ====
/- The dilation-1 attention kernel's two output arrays are the attention of the projected rows. -/
module

public import proofs.«01_k».proof.Proof.Band1Pair0
public import proofs.«01_k».proof.Proof.Band1Pair1

@[expose] public section

set_option maxRecDepth 16384

noncomputable section

namespace Cert.Band1Ideal.Band

open Idealize.ShloMosaic Idealize.ShloMosaic.TcCoe Idealize.SL.Sem
open Cert.Band1Ideal Cert.Band1Ideal.Gen

variable (m : (ℓ : Loc nD τ sig) → Buf (Elt Ideal) ℓ)

/-- What a grid point leaves in the outputs' block. -/
theorem point_out (c : Dev nD) (hz : Cert.Band.Finite (Z m c)) (t : Fin cfg0.N) (y : S2x512x128.Idx) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) y
      = Cert.Band.out 1 0 (Z m c) (y 0) (512 * t.val + (y 1 : ℕ)) (y 2) := by
  unfold_out out0_10
  canon_tiles x h
  case piece0 =>
    have hx : x = ix3 (x 0) (x 1) (x 2) := eq_ix3 x
    have e0 : (y 0 : ℕ) = 1 := by omega
    have e1 : 512 * t.val + (y 1 : ℕ) = 512 * t.val + 384 + (x 1 : ℕ) := by omega
    rw [e0, e1, h2, hx]
    exact (good13 m c t (x 1)).out_eq hz one_pos (x 0) (x 2)
  case piece1 =>
    have hx : x = ix3 (x 0) (x 1) (x 2) := eq_ix3 x
    have e0 : (y 0 : ℕ) = 1 := by omega
    have e1 : 512 * t.val + (y 1 : ℕ) = 512 * t.val + 256 + (x 1 : ℕ) := by omega
    rw [e0, e1, h2, hx]
    exact (good12 m c t (x 1)).out_eq hz one_pos (x 0) (x 2)
  case piece2 =>
    have hx : x = ix3 (x 0) (x 1) (x 2) := eq_ix3 x
    have e0 : (y 0 : ℕ) = 1 := by omega
    have e1 : 512 * t.val + (y 1 : ℕ) = 512 * t.val + 128 + (x 1 : ℕ) := by omega
    rw [e0, e1, h2, hx]
    exact (good11 m c t (x 1)).out_eq hz one_pos (x 0) (x 2)
  case piece3 =>
    have hx : x = ix3 (x 0) (x 1) (x 2) := eq_ix3 x
    have e0 : (y 0 : ℕ) = 1 := by omega
    have e1 : 512 * t.val + (y 1 : ℕ) = 512 * t.val + 0 + (x 1 : ℕ) := by omega
    rw [e0, e1, h2, hx]
    exact (good10 m c t (x 1)).out_eq hz one_pos (x 0) (x 2)
  case piece4 =>
    have hx : x = ix3 (x 0) (x 1) (x 2) := eq_ix3 x
    have e0 : (y 0 : ℕ) = 0 := by omega
    have e1 : 512 * t.val + (y 1 : ℕ) = 512 * t.val + 384 + (x 1 : ℕ) := by omega
    rw [e0, e1, h2, hx]
    exact (good03 m c t (x 1)).out_eq hz one_pos (x 0) (x 2)
  case piece5 =>
    have hx : x = ix3 (x 0) (x 1) (x 2) := eq_ix3 x
    have e0 : (y 0 : ℕ) = 0 := by omega
    have e1 : 512 * t.val + (y 1 : ℕ) = 512 * t.val + 256 + (x 1 : ℕ) := by omega
    rw [e0, e1, h2, hx]
    exact (good02 m c t (x 1)).out_eq hz one_pos (x 0) (x 2)
  case piece6 =>
    have hx : x = ix3 (x 0) (x 1) (x 2) := eq_ix3 x
    have e0 : (y 0 : ℕ) = 0 := by omega
    have e1 : 512 * t.val + (y 1 : ℕ) = 512 * t.val + 128 + (x 1 : ℕ) := by omega
    rw [e0, e1, h2, hx]
    exact (good01 m c t (x 1)).out_eq hz one_pos (x 0) (x 2)
  case piece7 =>
    have hx : x = ix3 (x 0) (x 1) (x 2) := eq_ix3 x
    have e0 : (y 0 : ℕ) = 0 := by omega
    have e1 : 512 * t.val + (y 1 : ℕ) = 512 * t.val + 0 + (x 1 : ℕ) := by omega
    rw [e0, e1, h2, hx]
    exact (good00 m c t (x 1)).out_eq hz one_pos (x 0) (x 2)

/-- What a grid point leaves in the log-sum-exps' block. -/
theorem point_lse (c : Dev nD) (t : Fin cfg0.N) (y : S2x512x128.Idx) :
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) y
      = Soft.lse (Cert.Band.sc 1 0 (Z m c) (y 0) (512 * t.val + (y 1 : ℕ)) (y 2)) := by
  unfold_out out0_11
  canon_tiles x h
  case piece0 =>
    have hx : x = ix3 (x 0) (x 1) (x 2) := eq_ix3 x
    have e0 : (y 0 : ℕ) = 1 := by omega
    have e1 : 512 * t.val + (y 1 : ℕ) = 512 * t.val + 384 + (x 1 : ℕ) := by omega
    rw [e0, e1, h2, hx]
    exact (good13 m c t (x 1)).lse_eq (x 0) (x 2)
  case piece1 =>
    have hx : x = ix3 (x 0) (x 1) (x 2) := eq_ix3 x
    have e0 : (y 0 : ℕ) = 1 := by omega
    have e1 : 512 * t.val + (y 1 : ℕ) = 512 * t.val + 256 + (x 1 : ℕ) := by omega
    rw [e0, e1, h2, hx]
    exact (good12 m c t (x 1)).lse_eq (x 0) (x 2)
  case piece2 =>
    have hx : x = ix3 (x 0) (x 1) (x 2) := eq_ix3 x
    have e0 : (y 0 : ℕ) = 1 := by omega
    have e1 : 512 * t.val + (y 1 : ℕ) = 512 * t.val + 128 + (x 1 : ℕ) := by omega
    rw [e0, e1, h2, hx]
    exact (good11 m c t (x 1)).lse_eq (x 0) (x 2)
  case piece3 =>
    have hx : x = ix3 (x 0) (x 1) (x 2) := eq_ix3 x
    have e0 : (y 0 : ℕ) = 1 := by omega
    have e1 : 512 * t.val + (y 1 : ℕ) = 512 * t.val + 0 + (x 1 : ℕ) := by omega
    rw [e0, e1, h2, hx]
    exact (good10 m c t (x 1)).lse_eq (x 0) (x 2)
  case piece4 =>
    have hx : x = ix3 (x 0) (x 1) (x 2) := eq_ix3 x
    have e0 : (y 0 : ℕ) = 0 := by omega
    have e1 : 512 * t.val + (y 1 : ℕ) = 512 * t.val + 384 + (x 1 : ℕ) := by omega
    rw [e0, e1, h2, hx]
    exact (good03 m c t (x 1)).lse_eq (x 0) (x 2)
  case piece5 =>
    have hx : x = ix3 (x 0) (x 1) (x 2) := eq_ix3 x
    have e0 : (y 0 : ℕ) = 0 := by omega
    have e1 : 512 * t.val + (y 1 : ℕ) = 512 * t.val + 256 + (x 1 : ℕ) := by omega
    rw [e0, e1, h2, hx]
    exact (good02 m c t (x 1)).lse_eq (x 0) (x 2)
  case piece6 =>
    have hx : x = ix3 (x 0) (x 1) (x 2) := eq_ix3 x
    have e0 : (y 0 : ℕ) = 0 := by omega
    have e1 : 512 * t.val + (y 1 : ℕ) = 512 * t.val + 128 + (x 1 : ℕ) := by omega
    rw [e0, e1, h2, hx]
    exact (good01 m c t (x 1)).lse_eq (x 0) (x 2)
  case piece7 =>
    have hx : x = ix3 (x 0) (x 1) (x 2) := eq_ix3 x
    have e0 : (y 0 : ℕ) = 0 := by omega
    have e1 : 512 * t.val + (y 1 : ℕ) = 512 * t.val + 0 + (x 1 : ℕ) := by omega
    rw [e0, e1, h2, hx]
    exact (good00 m c t (x 1)).lse_eq (x 0) (x 2)

/-- The first output array after the run. -/
theorem final_out (c : Dev nD) (hz : Cert.Band.Finite (Z m c)) :
    (dats m 0 c).arrAt 10 (cfgs 0).N = fun j : S2x16384x128.Idx => Cert.Band.out 1 0 (Z m c) (j 0) (j 1) (j 2) := by
  refine (dats m 0 c).arrAt_eq_of_covers 10 _ (by decide +kernel) fun t _ y => ?_
  blk_simp
  rw [after0_10, point_out m c hz t y]
  have e := (idx t).2.2.2.2.2.2.2.2.2.2.1
  blk_simp [e]
  rw [Nat.mul_comm]

/-- The second output array after the run. -/
theorem final_lse (c : Dev nD) :
    (dats m 0 c).arrAt 11 (cfgs 0).N = fun j : S2x16384x128.Idx => Soft.lse (Cert.Band.sc 1 0 (Z m c) (j 0) (j 1) (j 2)) := by
  refine (dats m 0 c).arrAt_eq_of_covers 11 _ (by decide +kernel) fun t _ y => ?_
  blk_simp
  rw [after0_11, point_lse m c t y]
  have e := (idx t).2.2.2.2.2.2.2.2.2.2.2.1
  blk_simp [e]
  rw [Nat.mul_comm]

end Cert.Band1Ideal.Band

end
-- ==== Proof.Band1Ref.lean ====
/- The reference of the dilation-1 attention, read at an index: its outputs are the attention of the projected rows. -/
module

public import proofs.«01_k».proof.Proof.Gen.Band1RefIdeal.Read
public import proofs.«01_k».proof.Proof.BandSpec

@[expose] public section

set_option maxRecDepth 16384

noncomputable section

namespace Cert.Band1RefIdeal.Att

open Idealize.ShloMosaic
open Cert.Band1RefIdeal Cert.Band1RefIdeal.Gen Cert.Band1RefIdeal.Read

/-- The projections at an index, read by the index's numbers. -/
theorem rd_idx (z : FVec Ideal Cert.Band.SZ .f32) (i : Cert.Band.SZ.Idx) (a b : ℕ) (h0 : (i 0).val = a) (h1 : (i 1).val = b) :
    z i = Cert.Band.rd z a b := by
  subst h0 h1
  rw [Cert.Band.rd_at z _ _ (i 0).isLt (i 1).isLt]
  exact congrArg z (eq_ix2 i)

/-- The queries by sequence, row and head. -/
theorem v1_at (z : FVec Ideal S16384x5120 .f32) (b : Fin 2) (r : Fin 8192) (h : Fin 4) (d : Fin 64) :
    val_main_v1 (F := Ideal) z (ix4 b r h d) = Cert.Band.rd z (b * 8192 + r) (64 * h + d) := by
  unfold val_main_v1
  rw [shapeCast_apply _ shapeCasts_S16384x256_S2x8192x4x64 (ix4 b r h d) (ix2 ⟨b.val * 8192 + r.val, by omega⟩ ⟨h.val * 64 + d.val, by omega⟩) (by
    rewrite [Shape.rowMajor_val_two, Shape.rowMajor_val_four]
    show ((b.val * 8192 + r.val)) * 256 + (h.val * 64 + d.val) = ((b.val * 8192 + r.val) * 4 + h.val) * 64 + d.val
    omega), val_main_v0_apply]
  exact rd_idx z _ _ _ (by dsimp only [idx_main_v0, ix2]) (by dsimp only [idx_main_v0, ix2]; omega)

/-- The queries by sequence, block, row of the block and head. -/
theorem v6_at (z : FVec Ideal S16384x5120 .f32) (b : Fin 2) (n : Fin 64) (q : Fin 128) (h : Fin 4) (d : Fin 64) :
    val_main_v6 (F := Ideal) z (ix5 b n q h d) = Cert.Band.rd z (b * 8192 + n * 128 + q) (64 * h + d) := by
  unfold val_main_v6
  rw [shapeCast_apply _ shapeCasts_S2x8192x4x64_S2x64x128x4x64 (ix5 b n q h d) (ix4 b ⟨n.val * 128 + q.val, by omega⟩ h d) (by
    rewrite [Shape.rowMajor_val_four, Shape.rowMajor_val_five]
    show ((b.val * 8192 + (n.val * 128 + q.val)) * 4 + h.val) * 64 + d.val = (((b.val * 64 + n.val) * 128 + q.val) * 4 + h.val) * 64 + d.val
    omega), v1_at, Nat.add_assoc (b * 8192)]

/-- The keys by sequence, row and head. -/
theorem v3_at (z : FVec Ideal S16384x5120 .f32) (b : Fin 2) (r : Fin 8192) (h : Fin 4) (d : Fin 64) :
    val_main_v3 (F := Ideal) z (ix4 b r h d) = Cert.Band.rd z (b * 8192 + r) (768 + 64 * h + d) := by
  unfold val_main_v3
  rw [shapeCast_apply _ shapeCasts_S16384x256_S2x8192x4x64 (ix4 b r h d) (ix2 ⟨b.val * 8192 + r.val, by omega⟩ ⟨h.val * 64 + d.val, by omega⟩) (by
    rewrite [Shape.rowMajor_val_two, Shape.rowMajor_val_four]
    show ((b.val * 8192 + r.val)) * 256 + (h.val * 64 + d.val) = ((b.val * 8192 + r.val) * 4 + h.val) * 64 + d.val
    omega), val_main_v2_apply]
  exact rd_idx z _ _ _ (by dsimp only [idx_main_v2, ix2]) (by dsimp only [idx_main_v2, ix2]; omega)

/-- The keys by sequence, block, row of the block and head. -/
theorem v7_at (z : FVec Ideal S16384x5120 .f32) (b : Fin 2) (n : Fin 64) (q : Fin 128) (h : Fin 4) (d : Fin 64) :
    val_main_v7 (F := Ideal) z (ix5 b n q h d) = Cert.Band.rd z (b * 8192 + n * 128 + q) (768 + 64 * h + d) := by
  unfold val_main_v7
  rw [shapeCast_apply _ shapeCasts_S2x8192x4x64_S2x64x128x4x64 (ix5 b n q h d) (ix4 b ⟨n.val * 128 + q.val, by omega⟩ h d) (by
    rewrite [Shape.rowMajor_val_four, Shape.rowMajor_val_five]
    show ((b.val * 8192 + (n.val * 128 + q.val)) * 4 + h.val) * 64 + d.val = (((b.val * 64 + n.val) * 128 + q.val) * 4 + h.val) * 64 + d.val
    omega), v3_at, Nat.add_assoc (b * 8192)]

/-- The values by sequence, row and head. -/
theorem v5_at (z : FVec Ideal S16384x5120 .f32) (b : Fin 2) (r : Fin 8192) (h : Fin 4) (d : Fin 64) :
    val_main_v5 (F := Ideal) z (ix4 b r h d) = Cert.Band.rd z (b * 8192 + r) (1536 + 64 * h + d) := by
  unfold val_main_v5
  rw [shapeCast_apply _ shapeCasts_S16384x256_S2x8192x4x64 (ix4 b r h d) (ix2 ⟨b.val * 8192 + r.val, by omega⟩ ⟨h.val * 64 + d.val, by omega⟩) (by
    rewrite [Shape.rowMajor_val_two, Shape.rowMajor_val_four]
    show ((b.val * 8192 + r.val)) * 256 + (h.val * 64 + d.val) = ((b.val * 8192 + r.val) * 4 + h.val) * 64 + d.val
    omega), val_main_v4_apply]
  exact rd_idx z _ _ _ (by dsimp only [idx_main_v4, ix2]) (by dsimp only [idx_main_v4, ix2]; omega)

/-- The values by sequence, block, row of the block and head. -/
theorem v8_at (z : FVec Ideal S16384x5120 .f32) (b : Fin 2) (n : Fin 64) (q : Fin 128) (h : Fin 4) (d : Fin 64) :
    val_main_v8 (F := Ideal) z (ix5 b n q h d) = Cert.Band.rd z (b * 8192 + n * 128 + q) (1536 + 64 * h + d) := by
  unfold val_main_v8
  rw [shapeCast_apply _ shapeCasts_S2x8192x4x64_S2x64x128x4x64 (ix5 b n q h d) (ix4 b ⟨n.val * 128 + q.val, by omega⟩ h d) (by
    rewrite [Shape.rowMajor_val_four, Shape.rowMajor_val_five]
    show ((b.val * 8192 + (n.val * 128 + q.val)) * 4 + h.val) * 64 + d.val = (((b.val * 64 + n.val) * 128 + q.val) * 4 + h.val) * 64 + d.val
    omega), v5_at, Nat.add_assoc (b * 8192)]

/-- The keys of a block and of the block before it, where there is one. -/
theorem v11_at (z : FVec Ideal S16384x5120 .f32) (b : Fin 2) (n : Fin 64) (k : Fin 256) (h : Fin 4) (d : Fin 64)
    (hk : 128 ≤ (k : ℕ) ∨ (n : ℕ) ≠ 0) :
    val_main_v11 (F := Ideal) z (ix5 b n k h d) = Cert.Band.rd z (b * 8192 + n * 128 + k - 128) (768 + 64 * h + d) := by
  pointwise [val_main_v11, val_main_v10, val_main_v9]
  split
  · rw [dif_pos (by omega), v7_at]
    exact congrArg (Cert.Band.rd z · _) (by dsimp only; omega)
  · rw [v7_at]
    exact congrArg (Cert.Band.rd z · _) (by dsimp only; omega)

/-- The values of a block and of the block before it, where there is one. -/
theorem v14_at (z : FVec Ideal S16384x5120 .f32) (b : Fin 2) (n : Fin 64) (k : Fin 256) (h : Fin 4) (d : Fin 64)
    (hk : 128 ≤ (k : ℕ) ∨ (n : ℕ) ≠ 0) :
    val_main_v14 (F := Ideal) z (ix5 b n k h d) = Cert.Band.rd z (b * 8192 + n * 128 + k - 128) (1536 + 64 * h + d) := by
  pointwise [val_main_v14, val_main_v13, val_main_v12]
  split
  · rw [dif_pos (by omega), v8_at]
    exact congrArg (Cert.Band.rd z · _) (by dsimp only; omega)
  · rw [v8_at]
    exact congrArg (Cert.Band.rd z · _) (by dsimp only; omega)

/-- The word that says that a key is not before the sequence's first row. -/
theorem first_word (n k : ℕ) (hn : n < 64) (hk : k < 256) :
    IntOp.cmpi .sge (IntOp.subi (IntOp.addi (IntOp.muli (BitVec.ofNat 32 n) 128#32) (BitVec.ofNat 32 k)) 128#32) 0#32
      = BitVec.ofBool (decide (128 ≤ k ∨ n ≠ 0)) := by
  have hx : (IntOp.subi (IntOp.addi (IntOp.muli (BitVec.ofNat 32 n) 128#32) (BitVec.ofNat 32 k)) 128#32).toInt = (n : ℤ) * 128 + k - 128 := by
    have en : (BitVec.ofNat 32 n).toInt = n := WordCmp.toInt_ofNat_of_lt (by omega)
    have ek : (BitVec.ofNat 32 k).toInt = k := WordCmp.toInt_ofNat_of_lt (by omega)
    have e8 : (128#32).toInt = 128 := by decide
    simp only [IntOp.subi, IntOp.addi, IntOp.muli, BitVec.toInt_sub, BitVec.toInt_add, BitVec.toInt_mul, en, ek, e8, Int.bmod]
    omega
  unfold IntOp.cmpi
  simp only [BitVec.sle, hx]
  congr 1
  refine decide_eq_decide.mpr ?_
  simp
  omega

/-- The mask: the band, and no key before the sequence's first row. -/
theorem v48_at (n : Fin 64) (q : Fin 128) (k : Fin 256) :
    val_main_v48 (F := Ideal) (ix3 n q k)
      = BitVec.ofBool (decide (((q : ℕ) ≤ k ∧ (k : ℕ) ≤ q + 128) ∧ (128 ≤ (k : ℕ) ∨ (n : ℕ) ≠ 0))) := by
  simp only [val_main_v48_apply, val_main_v47_apply, val_main_v46_apply]
  pointwise [val_main_v43, val_main_v39, val_main_v42, val_main_v38, val_main_v41, val_main_v40, val_main_v37, val_main_v26, val_main_v25, val_main_v24, val_main_v23, val_main_v22, val_main_v21, val_main_v20, val_main_v19, val_main_v18, val_main_c_1, val_main_v45, val_main_v44, val_main_v36, val_main_v35, val_main_v34, val_main_v33, val_main_v32, val_main_v31, val_main_v30, val_main_v29, val_main_v28, val_main_v27, val_main_c_2, val_main_c_3, val_main_c_4, val_main_c_5, val_main_c_6]
  rw [Cert.Band.band_word q k q.isLt k.isLt, first_word n k n.isLt k.isLt, WordCmp.andi_ofBool, Bool.decide_and (_ ∧ _)]

theorem v15_at (z : FVec Ideal S16384x5120 .f32) (b : Fin 2) (n : Fin 64) (h : Fin 4) (q : Fin 128) (k : Fin 256) :
    val_main_v15 (F := Ideal) z (ix5 b n h q k) = ∑ d : Fin 64, val_main_v6 (F := Ideal) z (ix5 b n q h d) * val_main_v11 (F := Ideal) z (ix5 b n k h d) := by
  rw [val_main_v15_apply]
  exact Finset.sum_congr rfl fun d _ => congrArg₂ (· * ·) (congrArg _ (eq_ix5 _)) (congrArg _ (eq_ix5 _))

theorem neg_inf : Ideal.ofBits .f32 0xFF800000#32 = ⊥ := by simp [Ideal.ofBits, Ideal.ieee]

/-- Where a row, a head and a lane of the reference sit among the numbers of the specification. -/
structure Pos (p R c : ℕ) (b : Fin 2) (n : Fin 64) (h : Fin 4) (q : Fin 128) : Prop where
  row : R = b * 8192 + n * 128 + q
  head : (h : ℕ) = 2 * p + c / 64
  lane : c < 128

variable {p R c : ℕ} {b : Fin 2} {n : Fin 64} {h : Fin 4} {q : Fin 128}

theorem ok_iff (P : Pos p R c b n h q) (k : Fin 256) :
    (((q : ℕ) ≤ k ∧ (k : ℕ) ≤ q + 128) ∧ (128 ≤ (k : ℕ) ∨ (n : ℕ) ≠ 0)) ↔ Cert.Band.okKey 1 R k := by
  have := P.row
  unfold Cert.Band.okKey
  omega

theorem key_row (P : Pos p R c b n h q) (k : ℕ) : (b * 8192 + n * 128 + k - 128 : ℕ) = Cert.Band.keyRow 1 R k := by
  have := P.row
  unfold Cert.Band.keyRow
  omega

theorem call2_at (i : S_.Idx) : val_main_call2_v0 (F := Ideal) i = ⊥ := neg_inf

/-- The masked scores. -/
theorem v50_at (z : FVec Ideal S16384x5120 .f32) (P : Pos p R c b n h q) (k : Fin 256) :
    val_main_v50 (F := Ideal) z (ix5 b n h q k) = Cert.Band.sc 1 0 z p R c k := by
  pointwise [val_main_v50, val_main_call2_v1, val_main_call2_v2, val_main_v49, val_main_v17, val_main_v16, val_main_cst]
  rw [v48_at, Scalar.select_ofBool, v15_at, call2_at]
  unfold Cert.Band.sc
  by_cases hk : Cert.Band.okKey 1 R k
  · rw [if_pos hk, decide_eq_true ((ok_iff P k).mpr hk)]
    simp only [if_true]
    refine congrArg (Ideal.div · _) (Finset.sum_congr rfl fun d _ => ?_)
    rw [v6_at, v11_at _ _ _ _ _ _ ((ok_iff P k).mpr hk).2, key_row P, P.row]
    have := P.head
    refine congrArg₂ (· * ·) (congrArg _ ?_) (congrArg _ ?_) <;> omega
  · rw [if_neg hk, decide_eq_false fun h0 => hk ((ok_iff P k).mp h0)]
    rfl

/-- The maximum of the masked scores. -/
theorem v51_at (z : FVec Ideal S16384x5120 .f32) (P : Pos p R c b n h q) :
    val_main_v51 (F := Ideal) z (ix4 b n h q) = Soft.mx (Cert.Band.sc 1 0 z p R c) := by
  pointwise [val_main_v51, val_main_cst_8]
  rw [neg_inf]
  exact congrArg (Finset.fold max ⊥ · Finset.univ) (funext fun k => v50_at z P k)

theorem v52_at (z : FVec Ideal S16384x5120 .f32) (P : Pos p R c b n h q) :
    val_main_v52 (F := Ideal) z (ix5 b n h q 0) = Soft.mx (Cert.Band.sc 1 0 z p R c) := by
  rw [val_main_v52_apply, ← v51_at z P]
  exact congrArg _ (eq_ix4 _)

theorem v55_at (z : FVec Ideal S16384x5120 .f32) (P : Pos p R c b n h q) (k : Fin 256) :
    val_main_v55 (F := Ideal) z (ix5 b n h q k) = Ideal.exp (Cert.Band.sc 1 0 z p R c k - Soft.mx (Cert.Band.sc 1 0 z p R c)) := by
  rw [val_main_v55_apply, val_main_v54_apply, v50_at z P, val_main_v53_apply, ← v52_at z P]
  exact congrArg (fun w => Ideal.exp (Cert.Band.sc 1 0 z p R c k - val_main_v52 (F := Ideal) z w)) (eq_ix5 _)

/-- The sum of the exponentials. -/
theorem v56_at (z : FVec Ideal S16384x5120 .f32) (P : Pos p R c b n h q) :
    val_main_v56 (F := Ideal) z (ix4 b n h q) = Soft.tot (Cert.Band.sc 1 0 z p R c) := by
  rw [val_main_v56_apply]
  have e0 : val_main_cst_9 (F := Ideal) (Shape.Idx.first h_S_) = 0 := by
    show Ideal.ofBits .f32 0#32 = 0
    simp [Ideal.ofBits, Ideal.ieee]
  rw [e0, zero_add]
  refine Finset.sum_congr rfl fun k _ => ?_
  rw [← v55_at z P]
  exact congrArg _ (eq_ix5 _)

/-- The log-sum-exp of the masked scores. -/
theorem v59_at (z : FVec Ideal S16384x5120 .f32) (P : Pos p R c b n h q) :
    val_main_v59 (F := Ideal) z (ix5 b n h q 0) = Soft.lse (Cert.Band.sc 1 0 z p R c) := by
  rw [val_main_v59_apply, v52_at z P, val_main_v58_apply, val_main_v57_apply]
  unfold Soft.lse
  rw [← v56_at z P]
  exact congrArg (fun w => Soft.mx (Cert.Band.sc 1 0 z p R c) + Ideal.log (val_main_v56 (F := Ideal) z w)) (eq_ix4 _)

/-- The softmax's weights. -/
theorem v62_at (z : FVec Ideal S16384x5120 .f32) (P : Pos p R c b n h q) (k : Fin 256) :
    val_main_v62 (F := Ideal) z (ix5 b n h q k) = Ideal.exp (Cert.Band.sc 1 0 z p R c k - Soft.lse (Cert.Band.sc 1 0 z p R c)) := by
  pointwise [val_main_v62, val_main_v61, val_main_v60]
  rw [v50_at z P, v59_at z P]

/-- The weighted sum of the values. -/
theorem v64_at (z : FVec Ideal S16384x5120 .f32) (hz : Cert.Band.Finite z) (P : Pos p R c b n h q) (d : Fin 64) (hd : (d : ℕ) = c % 64) :
    val_main_v64 (F := Ideal) z (ix5 b n h d q) = Cert.Band.out 1 0 z p R c := by
  rw [val_main_v64_apply, ← Cert.Band.out_congr hz 1 0 p R c one_pos (fun k => val_main_v14 (F := Ideal) z (ix5 b n k h d)) fun k hk => by
    rw [v14_at _ _ _ _ _ _ ((ok_iff P k).mpr hk).2, key_row P]
    have := P.head
    exact congrArg _ (by omega)]
  refine Finset.sum_congr rfl fun k _ => congrArg₂ (· * ·) (congrArg _ (eq_ix5 _)) ?_
  rw [← v62_at z P]
  exact congrArg _ (eq_ix5 _)

theorem v69_at (z : FVec Ideal S16384x5120 .f32) (R : Fin 16384) (p : Fin 2) (c : Fin 128) :
    val_main_v69 (F := Ideal) z (ix3 R p c) = val_main_v66 (F := Ideal) z (ix4 ⟨R / 8192, by omega⟩ ⟨R % 8192, by omega⟩ ⟨2 * p + c / 64, by omega⟩ ⟨c % 64, by omega⟩) := by
  unfold val_main_v69
  exact shapeCast_apply _ shapeCasts_S2x8192x4x64_S16384x2x128 _ _ (by
    rewrite [Shape.rowMajor_val_four, Shape.rowMajor_val_three]
    show (((R.val / 8192) * 8192 + R.val % 8192) * 4 + (2 * p.val + c.val / 64)) * 64 + c.val % 64 = (R.val * 2 + p.val) * 128 + c.val
    omega)

theorem v73_at (z : FVec Ideal S16384x5120 .f32) (R : Fin 16384) (p : Fin 2) (c : Fin 128) :
    val_main_v73 (F := Ideal) z (ix3 R p c) = val_main_v72 (F := Ideal) z (ix4 ⟨R / 8192, by omega⟩ ⟨R % 8192, by omega⟩ ⟨2 * p + c / 64, by omega⟩ ⟨c % 64, by omega⟩) := by
  unfold val_main_v73
  exact shapeCast_apply _ shapeCasts_S2x8192x4x64_S16384x2x128 _ _ (by
    rewrite [Shape.rowMajor_val_four, Shape.rowMajor_val_three]
    show (((R.val / 8192) * 8192 + R.val % 8192) * 4 + (2 * p.val + c.val / 64)) * 64 + c.val % 64 = (R.val * 2 + p.val) * 128 + c.val
    omega)

theorem v66_at (z : FVec Ideal S16384x5120 .f32) (b : Fin 2) (r : Fin 8192) (h : Fin 4) (d : Fin 64) :
    val_main_v66 (F := Ideal) z (ix4 b r h d) = val_main_v64 (F := Ideal) z (ix5 b ⟨r / 128, by omega⟩ h d ⟨r % 128, by omega⟩) := by
  unfold val_main_v66
  rw [shapeCast_apply _ shapeCasts_S2x64x128x4x64_S2x8192x4x64 (ix4 b r h d) (ix5 b ⟨r / 128, by omega⟩ ⟨r % 128, by omega⟩ h d) (by
    rewrite [Shape.rowMajor_val_five, Shape.rowMajor_val_four]
    show (((b.val * 64 + r.val / 128) * 128 + r.val % 128) * 4 + h.val) * 64 + d.val = ((b.val * 8192 + r.val) * 4 + h.val) * 64 + d.val
    omega), val_main_v65_apply]
  exact congrArg _ (eq_ix5 _)

theorem v72_at (z : FVec Ideal S16384x5120 .f32) (b : Fin 2) (r : Fin 8192) (h : Fin 4) (d : Fin 64) :
    val_main_v72 (F := Ideal) z (ix4 b r h d) = val_main_v68 (F := Ideal) z (ix3 b r h) := by
  rw [val_main_v72_apply, val_main_v71_apply]
  exact congrArg _ (eq_ix3 _)

theorem v68_at (z : FVec Ideal S16384x5120 .f32) (b : Fin 2) (r : Fin 8192) (h : Fin 4) :
    val_main_v68 (F := Ideal) z (ix3 b r h) = val_main_v63 (F := Ideal) z (ix4 b ⟨r / 128, by omega⟩ h ⟨r % 128, by omega⟩) := by
  unfold val_main_v68
  rw [shapeCast_apply _ shapeCasts_S2x64x128x4_S2x8192x4 (ix3 b r h) (ix4 b ⟨r / 128, by omega⟩ ⟨r % 128, by omega⟩ h) (by
    rewrite [Shape.rowMajor_val_four, Shape.rowMajor_val_three]
    show ((b.val * 64 + r.val / 128) * 128 + r.val % 128) * 4 + h.val = (b.val * 8192 + r.val) * 4 + h.val
    omega), val_main_v67_apply]
  exact congrArg _ (eq_ix4 _)

theorem v63_at (z : FVec Ideal S16384x5120 .f32) (b : Fin 2) (n : Fin 64) (h : Fin 4) (q : Fin 128) :
    val_main_v63 (F := Ideal) z (ix4 b n h q) = val_main_v59 (F := Ideal) z (ix5 b n h q 0) := by
  unfold val_main_v63
  exact shapeCast_apply _ shapeCasts_S2x64x4x128x1_S2x64x4x128 _ _ (by
    rewrite [Shape.rowMajor_val_five, Shape.rowMajor_val_four]
    show (((b.val * 64 + n.val) * 4 + h.val) * 128 + q.val) * 1 + 0 = ((b.val * 64 + n.val) * 4 + h.val) * 128 + q.val
    omega)

/-- The position of an index of the results. -/
theorem pos (R : Fin 16384) (p : Fin 2) (c : Fin 128) : Pos p R c ⟨R / 8192, by omega⟩ ⟨R % 8192 / 128, by omega⟩ ⟨2 * p + c / 64, by omega⟩
    ⟨R % 8192 % 128, by omega⟩ :=
  ⟨by dsimp only; omega, rfl, c.isLt⟩

/-- The reference's outputs. -/
theorem v70_at (z : FVec Ideal S16384x5120 .f32) (hz : Cert.Band.Finite z) (j : S2x16384x128.Idx) :
    val_main_v70 (F := Ideal) z j = Cert.Band.out 1 0 z (j 0) (j 1) (j 2) := by
  rw [val_main_v70_apply]
  refine (congrArg (val_main_v69 (F := Ideal) z) (eq_ix3 _)).trans ((v69_at z (j 1) (j 0) (j 2)).trans ((v66_at z _ _ _ _).trans ?_))
  exact v64_at z hz (pos (j 1) (j 0) (j 2)) _ rfl

/-- The reference's log-sum-exps. -/
theorem v74_at (z : FVec Ideal S16384x5120 .f32) (j : S2x16384x128.Idx) :
    val_main_v74 (F := Ideal) z j = Soft.lse (Cert.Band.sc 1 0 z (j 0) (j 1) (j 2)) := by
  rw [val_main_v74_apply]
  refine (congrArg (val_main_v73 (F := Ideal) z) (eq_ix3 _)).trans ((v73_at z (j 1) (j 0) (j 2)).trans ((v72_at z _ _ _ _).trans ((v68_at z _ _ _).trans ((v63_at z _ _ _ _).trans ?_))))
  exact v59_at z (pos (j 1) (j 0) (j 2))

end Cert.Band1RefIdeal.Att

end
-- ==== Proof.Band1Claim.lean ====
/- The dilation-1 attention: the frames and the value claim, put together from the two sides' values. -/
module

public import proofs.«01_k».proof.Defs
public import proofs.«01_k».proof.Proof.Band1Final
public import proofs.«01_k».proof.Proof.Band1Ref
public import proofs.«01_k».proof.Proof.Gen.Band1.Frame
public import proofs.«01_k».proof.Proof.Gen.Band1RefIdeal.Run
public import proofs.«01_k».proof.Proof.Gen.Pre_finite_z

@[expose] public section

noncomputable section

namespace Cert.Proof.Band1

open Idealize.ShloMosaic Idealize.SL.Sem

/-- The kernel runs and leaves its argument as it was. -/
theorem frame_p : Cert.quiescent_Band1 := fun m ρ _ => Cert.Band1.Gen.frame m ρ

/-- So does the idealized kernel. -/
theorem frame_pi : Cert.quiescent_Band1Ideal := fun m ρ _ => Cert.Band1Ideal.Gen.frame m ρ

theorem frame_pi_pre : Cert.quiescent_Band1Ideal_pre_finite_z := fun m ρ _ => Cert.Band1Ideal.Gen.frame m ρ

/-- The reference runs and leaves its argument as it was. -/
theorem frame_ri : Cert.quiescent_Band1RefIdeal := fun m ρ _ =>
  (θ_run Cert.Band1RefIdeal.defs _ _).mono (fun r h => ⟨fun c => (h c).2.2, sem_eq_zero_of_no_sems (by decide) r.2⟩)
    (Cert.Band1RefIdeal.Value.run (F := Ideal) m ρ)

theorem frame_ri_pre : Cert.quiescent_Band1RefIdeal_pre_finite_z := fun m ρ _ =>
  (θ_run Cert.Band1RefIdeal.defs _ _).mono (fun r h => ⟨fun c => (h c).2.2, sem_eq_zero_of_no_sems (by decide) r.2⟩)
    (Cert.Band1RefIdeal.Value.run (F := Ideal) m ρ)

/-- The one rewrite between the kernel and its idealization: the mask's literal, named as minus infinity. -/
theorem preserves : Cert.preserves_Band1_Band1Ideal := IdealRules.named_const.statement Cert.Band1Ideal.κ "mask" .f32 0xF149F2CA#32 ⊥ rfl

/-- A value whose magnitude is below infinity is a real. -/
theorem real_of_abs_lt (x : EReal) (h : max x (-x) < ⊤) : ∃ r : ℝ, x = (r : EReal) := by
  induction x with
  | bot => simp at h
  | top => simp at h
  | coe r => exact ⟨r, rfl⟩

/-- The precondition says that every projected value is a real. -/
theorem finite_of_pre (m : (ℓ : Loc Cert.Band1Ideal.nD Cert.Band1Ideal.τ Cert.Band1Ideal.sig) → Buf (Elt Ideal) ℓ)
    (h : Cert.Pre_Band1Ideal_finite_z m) (c : Dev Cert.Band1Ideal.nD) : Cert.Band.Finite (Cert.Band1Ideal.Band.Z m c) := by
  intro i
  have h1 := congrFun (h c) i
  refine real_of_abs_lt _ ?_
  have e : Cert.Pre_finite_z.fn (F := Ideal) (Cert.Band1Ideal.Band.Z m c) i
      = BitVec.ofBool (decide (max (Cert.Band1Ideal.Band.Z m c i) (-(Cert.Band1Ideal.Band.Z m c i)) < Ideal.ofBits .f32 0x7F800000#32)) := rfl
  have e2 : Ideal.ofBits .f32 0x7F800000#32 = ⊤ := by simp [Ideal.ofBits, Ideal.ieee]
  rw [e2] at e
  have h2 := e.symm.trans h1
  by_contra hn
  rw [decide_eq_false hn] at h2
  exact absurd h2 (by decide)

/-- The idealized kernel and the reference end with the same outputs and log-sum-exps, for real projections. -/
theorem algebraic : Cert.algebraic_Band1Ideal_Band1RefIdeal_pre_finite_z := by
  intro m g m' g' hpre hagree
  refine ⟨fun c => (fun j : Cert.Band1Ideal.S2x16384x128.Idx => Cert.Band.out 1 0 (Cert.Band1Ideal.Band.Z m c) (j 0) (j 1) (j 2)),
    fun c => (fun j : Cert.Band1Ideal.S2x16384x128.Idx => Soft.lse (Cert.Band.sc 1 0 (Cert.Band1Ideal.Band.Z m c) (j 0) (j 1) (j 2))), ?_, ?_⟩
  · refine (θ_run Cert.Band1Ideal.defs _ _).mono (fun r h c => ⟨(h c).1.trans ?_, (h c).2.1.trans ?_, (h c).2.2⟩)
      (Cert.Band1Ideal.Value.run_blocks (F := Ideal) m g)
    · exact Cert.Band1Ideal.Band.final_out m c (finite_of_pre m hpre c)
    · exact Cert.Band1Ideal.Band.final_lse m c
  · refine (θ_run Cert.Band1RefIdeal.defs _ _).mono (fun r h c => ⟨(h c).1.trans ?_, (h c).2.1.trans ?_, (h c).2.2⟩)
      (Cert.Band1RefIdeal.Value.run (F := Ideal) m' g')
    · refine (Cert.Band1RefIdeal.Read.val_main_v70_eq m' c).trans ?_
      rw [hagree c]
      exact funext fun j => Cert.Band1RefIdeal.Att.v70_at _ (finite_of_pre m hpre c) j
    · refine (Cert.Band1RefIdeal.Read.val_main_v74_eq m' c).trans ?_
      rw [hagree c]
      exact funext fun j => Cert.Band1RefIdeal.Att.v74_at _ j

end Cert.Proof.Band1

end
-- ==== Proof.Real.lean ====
/- Reading a precondition's word: a value whose magnitude is below infinity is a real. -/
module

public import Idealize.ShloMosaic.Lib.Pointwise

@[expose] public section

namespace Cert.Proof

open Idealize.ShloMosaic

/-- The word that compares a magnitude with infinity, where it is one, says that the value is a real. -/
theorem real_of_word (x : EReal) (h : BitVec.ofBool (decide (max x (-x) < Ideal.ofBits .f32 0x7F800000#32)) = 1#1) : ∃ r : ℝ, x = (r : EReal) := by
  have e : Ideal.ofBits .f32 0x7F800000#32 = ⊤ := by simp [Ideal.ofBits, Ideal.ieee]
  rw [e] at h
  have hlt : max x (-x) < ⊤ := by
    by_contra hn
    rw [decide_eq_false hn] at h
    exact absurd h (by decide)
  induction x with
  | bot => simp at hlt
  | top => simp at hlt
  | coe r => exact ⟨r, rfl⟩

end Cert.Proof

end
-- ==== Proof.InprojSpec.lean ====
/- The layer's input projection: the mathematics of one row. -/
module

public import Idealize.ShloMosaic.Lib.Pointwise

@[expose] public section

noncomputable section

namespace Cert.Inproj

open Idealize.ShloMosaic

/-- What a row of the projection reads: the row, and the cosines and sines of its position. -/
structure Row where
  x : Fin 1024 → EReal
  cs : Fin 8 → EReal
  sn : Fin 8 → EReal

/-- The weights: of the row's normalisation, of the projection (by row and column), and of the heads' normalisation (by column). -/
structure Weights where
  nw : Fin 1024 → EReal
  w : Fin 1024 → ℕ → EReal
  hw : ℕ → EReal

/-- The constants of the two normalisations. -/
def eps : EReal := Ideal.ofBits .f32 0x358637BD#32

/-- A head's lane, rotated by its position: the first sixteen lanes are two halves of eight. -/
def rope (y : ℕ → EReal) (cs sn : Fin 8 → EReal) (c : ℕ) : EReal :=
  if h : c % 64 < 8 then y c * cs ⟨c % 64, h⟩ - y (c + 8) * sn ⟨c % 64, h⟩
  else if h : c % 64 < 16 then y c * cs ⟨c % 64 - 8, by omega⟩ + y (c - 8) * sn ⟨c % 64 - 8, by omega⟩
  else y c

namespace Row

variable (R : Row) (W : Weights)

/-- The normalised row. -/
def n (k : Fin 1024) : EReal :=
  R.x k * Ideal.rsqrt (Ideal.div (∑ k : Fin 1024, R.x k * R.x k) (Ideal.ofBits .f32 0x44800000#32) + eps) * W.nw k

/-- The projected row. -/
def z (c : ℕ) : EReal := ∑ k : Fin 1024, R.n W k * W.w k c

/-- The mean square of a head. -/
def ms (s : ℕ) : EReal := Ideal.div (∑ d : Fin 64, R.z W (64 * s + d) * R.z W (64 * s + d)) (Ideal.ofBits .f32 0x42800000#32)

/-- The normalised heads of the queries and keys. -/
def y (c : ℕ) : EReal := R.z W c * Ideal.rsqrt (R.ms W (c / 64) + eps) * W.hw c

/-- The row of the output: queries, keys, values, a gap of zeros, and the rest. -/
def out (c : ℕ) : EReal :=
  if c < 1536 then rope (R.y W) R.cs R.sn c else if c < 2304 then R.z W c else if c < 2560 then 0 else R.z W (c - 256)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of finitely many reals is a real. -/
theorem sum_real {ι : Type} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

theorem mul_real {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem eps_pos : ∃ e : ℝ, 0 < e ∧ eps = e := by
  refine ⟨8796093 / 2 ^ 43, by norm_num, ?_⟩
  unfold eps
  simp [Ideal.ofBits, Ideal.ieee, -EReal.coe_mul]
  norm_num

theorem lit_1024 : Ideal.ofBits .f32 0x44800000#32 = ((1024 : ℝ) : EReal) := by
  simp [Ideal.ofBits, Ideal.ieee, -EReal.coe_mul]
  norm_num

theorem lit_64 : Ideal.ofBits .f32 0x42800000#32 = ((64 : ℝ) : EReal) := by
  simp [Ideal.ofBits, Ideal.ieee, -EReal.coe_mul]
  norm_num

theorem lit_64th : Ideal.ofBits .bf16 0x3C80#16 = ((1 / 64 : ℝ) : EReal) := by
  simp [Ideal.ofBits, Ideal.ieee, -EReal.coe_mul]
  norm_num

theorem div_real (a b : ℝ) (hb : b ≠ 0) : Ideal.div (a : EReal) (b : EReal) = ((a * b⁻¹ : ℝ) : EReal) := by
  unfold Ideal.div
  rw [if_neg (by exact_mod_cast hb), EReal.coe_mul, EReal.coe_inv]

/-- The reciprocal root of a mean of squares of reals, moved off zero, is a real. -/
theorem rsqrt_real (f : Fin 1024 → ℝ) :
    ∃ r : ℝ, Ideal.rsqrt (Ideal.div (∑ k : Fin 1024, (f k : EReal) * (f k : EReal)) (Ideal.ofBits .f32 0x44800000#32) + eps) = r := by
  obtain ⟨e, he, hee⟩ := eps_pos
  have hs : (∑ k : Fin 1024, (f k : EReal) * (f k : EReal)) = ((∑ k : Fin 1024, f k * f k : ℝ) : EReal) := by
    rw [coe_sum]
    exact Finset.sum_congr rfl fun k _ => (EReal.coe_mul _ _).symm
  have h0 : 0 ≤ ∑ k : Fin 1024, f k * f k := Finset.sum_nonneg fun k _ => mul_self_nonneg _
  rw [hs, lit_1024, div_real _ _ (by norm_num), hee, ← EReal.coe_add, Ideal.rsqrt_coe]
  have hp : 0 < (∑ k : Fin 1024, f k * f k) * (1024 : ℝ)⁻¹ + e := by positivity
  rw [if_neg (not_lt.mpr hp.le), if_neg hp.ne']
  exact ⟨_, rfl⟩

/-- Where one of the row's values is infinite, the mean of its squares is, and the reciprocal root of it is zero. -/
theorem rsqrt_inf (f : Fin 1024 → EReal) (k : Fin 1024) (hk : f k = ⊤ ∨ f k = ⊥) :
    Ideal.rsqrt (Ideal.div (∑ k : Fin 1024, f k * f k) (Ideal.ofBits .f32 0x44800000#32) + eps) = 0 := by
  obtain ⟨e, he, hee⟩ := eps_pos
  have h0 : ∀ j : Fin 1024, 0 ≤ f j * f j := by
    intro j
    induction f j with
    | bot => exact le_of_le_of_eq le_top EReal.bot_mul_bot.symm
    | top => exact le_of_le_of_eq le_top EReal.top_mul_top.symm
    | coe r => rw [← EReal.coe_mul]; exact_mod_cast mul_self_nonneg r
  have ht : f k * f k = ⊤ := by
    rcases hk with h | h
    · rw [h]; exact EReal.top_mul_top
    · rw [h]; exact EReal.bot_mul_bot
  have hs : (∑ k : Fin 1024, f k * f k) = ⊤ :=
    top_le_iff.mp (ht ▸ Finset.single_le_sum (f := fun j => f j * f j) (fun j _ => h0 j) (Finset.mem_univ k))
  have hd : Ideal.div ⊤ ((1024 : ℝ) : EReal) = ⊤ := by
    unfold Ideal.div
    rw [if_neg (by norm_num), ← EReal.coe_inv]
    exact EReal.top_mul_coe_of_pos (by norm_num)
  rw [hs, lit_1024, hd, hee, EReal.top_add_coe]
  rfl

/-- Where the row's scale and the projection's weights are reals, so is the projected row, whatever the row. -/
theorem z_real (hn : ∀ k, ∃ r : ℝ, W.nw k = r) (hw : ∀ k c, ∃ r : ℝ, W.w k c = r) (c : ℕ) :
    ∃ r : ℝ, R.z W c = r := by
  refine sum_real _ _ fun k => mul_real ?_ (hw k c)
  unfold n
  by_cases hx : ∀ k, ∃ r : ℝ, R.x k = r
  · refine mul_real (mul_real (hx k) ?_) (hn k)
    choose f hf using hx
    simp only [hf]
    exact rsqrt_real f
  · obtain ⟨j, hj⟩ := not_forall.mp hx
    have hi : R.x j = ⊤ ∨ R.x j = ⊥ := by
      generalize R.x j = a at hj
      induction a with
      | bot => exact Or.inr rfl
      | top => exact Or.inl rfl
      | coe r => exact absurd ⟨r, rfl⟩ hj
    rw [rsqrt_inf R.x j hi, mul_zero, zero_mul]
    exact ⟨0, EReal.coe_zero.symm⟩

end Row

/-- Over 256 lanes, the sum against the segments' averaging matrix is the mean of the lane's own segment. -/
theorem seg_mean (g : Fin 256 → ℝ) (q : Fin 256) :
    (∑ j : Fin 256, (g j : EReal) * (if (j : ℕ) / 64 = (q : ℕ) / 64 then Ideal.ofBits .bf16 0x3C80#16 else 0))
      = Ideal.div (∑ d : Fin 64, (g ⟨64 * ((q : ℕ) / 64) + d, by omega⟩ : EReal)) (Ideal.ofBits .f32 0x42800000#32) := by
  have hl : ∀ j : Fin 256, (g j : EReal) * (if (j : ℕ) / 64 = (q : ℕ) / 64 then Ideal.ofBits .bf16 0x3C80#16 else 0)
      = ((if (j : ℕ) / 64 = (q : ℕ) / 64 then g j * (1 / 64) else 0 : ℝ) : EReal) := by
    intro j
    split
    · rw [Row.lit_64th, EReal.coe_mul]
    · rw [mul_zero, EReal.coe_zero]
  rw [Finset.sum_congr rfl fun j _ => hl j, ← Row.coe_sum, ← Row.coe_sum, Row.lit_64, Row.div_real _ _ (by norm_num), EReal.coe_eq_coe_iff]
  rw [← (finProdFinEquiv (m := 4) (n := 64)).sum_comp, Fintype.sum_prod_type, Finset.sum_mul]
  have hq : (q : ℕ) / 64 < 4 := by omega
  rw [Finset.sum_eq_single (⟨(q : ℕ) / 64, hq⟩ : Fin 4)]
  · refine Finset.sum_congr rfl fun d _ => ?_
    have e : finProdFinEquiv ((⟨(q : ℕ) / 64, hq⟩ : Fin 4), d) = (⟨64 * ((q : ℕ) / 64) + d, by omega⟩ : Fin 256) :=
      Fin.ext (by simp [finProdFinEquiv]; omega)
    rw [e, if_pos (by show (64 * ((q : ℕ) / 64) + (d : ℕ)) / 64 = _; omega)]
    norm_num
  · intro a _ ha
    refine Finset.sum_eq_zero fun d _ => if_neg fun h => ha (Fin.ext ?_)
    have e : ((finProdFinEquiv (a, d) : Fin (4 * 64)) : ℕ) = (d : ℕ) + 64 * (a : ℕ) := rfl
    have := d.isLt
    show (a : ℕ) = (q : ℕ) / 64
    omega
  · intro h
    exact absurd (Finset.mem_univ _) h

end Cert.Inproj

end
-- ==== Proof.InprojTile.lean ====
/- The input projection's kernel on a block: what its payloads hold at an index. -/
module

public import proofs.«01_k».proof.Proof.Gen.InprojIdeal.Skeleton
public import proofs.«01_k».proof.Proof.InprojSpec
public import Idealize.ShloMosaic.Lib.Pointwise

@[expose] public section

set_option maxRecDepth 16384

noncomputable section

namespace Cert.InprojIdeal.Tile

open Idealize.ShloMosaic
open Cert.InprojIdeal Cert.InprojIdeal.Gen
open Cert.Inproj (Row Weights eps rope)

/-- The normalised rows of a block. -/
theorem pay3_at (x : FVec Ideal S512x1024 .f32) (nw : FVec Ideal S1x1024 .f32) (r : Fin 512) (k : Fin 1024) :
    k0_pay3 (F := Ideal) x nw (ix2 r k)
      = x (ix2 r k) * Ideal.rsqrt (Ideal.div (∑ k : Fin 1024, x (ix2 r k) * x (ix2 r k)) (Ideal.ofBits .f32 0x44800000#32) + eps) * nw (ix2 0 k) := by
  unfold eps
  pointwise [k0_pay3]

theorem pay1_at (xn : FVec Ideal S512x1024 .bf16) (w : FVec Ideal S1024x1024 .bf16) (r : Fin 512) (q : Fin 1024) :
    k0_pay1 (F := Ideal) xn w (ix2 r q) = ∑ k : Fin 1024, xn (ix2 r k) * w (ix2 k q) := by
  pointwise [k0_pay1]

theorem pay30_at (xn : FVec Ideal S512x1024 .bf16) (w : FVec Ideal S1024x1024 .bf16) (r : Fin 512) (q : Fin 1024) :
    k0_pay30 (F := Ideal) xn w (ix2 r q) = ∑ k : Fin 1024, xn (ix2 r k) * w (ix2 k q) := pay1_at xn w r q

theorem pay29_at (xn : FVec Ideal S512x1024 .bf16) (w : FVec Ideal S1024x512 .bf16) (r : Fin 512) (q : Fin 512) :
    k0_pay29 (F := Ideal) xn w (ix2 r q) = ∑ k : Fin 1024, xn (ix2 r k) * w (ix2 k q) := by
  pointwise [k0_pay29]

theorem pay28_at (xn : FVec Ideal S512x1024 .bf16) (w : FVec Ideal S1024x768 .bf16) (r : Fin 512) (q : Fin 768) :
    k0_pay28 (F := Ideal) xn w (ix2 r q) = ∑ k : Fin 1024, xn (ix2 r k) * w (ix2 k q) := by
  pointwise [k0_pay28]

theorem pay12_at (xn : FVec Ideal S512x1024 .bf16) (w : FVec Ideal S1024x256 .bf16) (r : Fin 512) (q : Fin 256) :
    k0_pay12 (F := Ideal) xn w (ix2 r q) = ∑ k : Fin 1024, xn (ix2 r k) * w (ix2 k q) := by
  pointwise [k0_pay12]

theorem pay2_at (r : Fin 512) (q : Fin 256) : k0_pay2 (F := Ideal) (ix2 r q) = 0 := by
  pointwise [k0_pay2]

/-- A table of 128 lanes, twice beside itself. -/
theorem pay4_at (a b : FVec Ideal S512x128 .f32) (r : Fin 512) (q : Fin 256) :
    k0_pay4 (F := Ideal) a b (ix2 r q) = if h : (q : ℕ) < 128 then a (ix2 r ⟨q, h⟩) else b (ix2 r ⟨q - 128, by omega⟩) := by
  pointwise [k0_pay4]

theorem pay5_at (a b : FVec Ideal S512x128 .f32) (r : Fin 512) (q : Fin 256) :
    k0_pay5 (F := Ideal) a b (ix2 r q) = if h : (q : ℕ) < 128 then a (ix2 r ⟨q, h⟩) else b (ix2 r ⟨q - 128, by omega⟩) := pay4_at a b r q

theorem pay6_at (a b : FVec Ideal S512x128 .f32) (r : Fin 512) (q : Fin 256) :
    k0_pay6 (F := Ideal) a b (ix2 r q) = if h : (q : ℕ) < 128 then a (ix2 r ⟨q, h⟩) else b (ix2 r ⟨q - 128, by omega⟩) := pay4_at a b r q

/-- The segments' mean squares. -/
theorem pay13_at (xn : FVec Ideal S512x1024 .bf16) (w : FVec Ideal S1024x256 .bf16) (s s' : FVec Ideal S256x256 .bf16) (r : Fin 512) (q : Fin 256) :
    k0_pay13 (F := Ideal) xn w s s' (ix2 r q)
      = (∑ j : Fin 256, k0_pay12 (F := Ideal) xn w (ix2 r j) * k0_pay12 (F := Ideal) xn w (ix2 r j) * s (ix2 j q))
        + ∑ j : Fin 256, (k0_pay12 (F := Ideal) xn w (ix2 r j) * k0_pay12 (F := Ideal) xn w (ix2 r j)
            - k0_pay12 (F := Ideal) xn w (ix2 r j) * k0_pay12 (F := Ideal) xn w (ix2 r j)) * s' (ix2 j q) := by
  pointwise [k0_pay13]

/-- A block of heads: normalised, and rotated by two rolls. -/
theorem pay14_at (cos sa sb z ms : FVec Ideal S512x256 .f32) (hw : FVec Ideal S1x256 .f32) (r : Fin 512) (q : Fin 256) :
    k0_pay14 (F := Ideal) cos sa sb z ms eps hw (ix2 r q)
      = z (ix2 r q) * Ideal.rsqrt (ms (ix2 r q) + eps) * hw (ix2 0 q) * cos (ix2 r q)
        + z (ix2 r ⟨((q : ℕ) + 256 - 248) % 256, by omega⟩) * Ideal.rsqrt (ms (ix2 r ⟨((q : ℕ) + 256 - 248) % 256, by omega⟩) + eps)
            * hw (ix2 0 ⟨((q : ℕ) + 256 - 248) % 256, by omega⟩) * sa (ix2 r q)
        + z (ix2 r ⟨((q : ℕ) + 256 - 8) % 256, by omega⟩) * Ideal.rsqrt (ms (ix2 r ⟨((q : ℕ) + 256 - 8) % 256, by omega⟩) + eps)
            * hw (ix2 0 ⟨((q : ℕ) + 256 - 8) % 256, by omega⟩) * sb (ix2 r q) := by
  pointwise [k0_pay14]

/-- What a row's block reads: the normalised row, the block's weights, the averaging matrix and the three tables of the position. -/
structure Reads (R : Row) (W : Weights) (r : Fin 512) (b : ℕ) (xn : FVec Ideal S512x1024 .bf16) (w : FVec Ideal S1024x256 .bf16)
    (s : FVec Ideal S256x256 .bf16) (cos sa sb : FVec Ideal S512x256 .f32) (hw : FVec Ideal S1x256 .f32) : Prop where
  n : ∀ k, xn (ix2 r k) = R.n W k
  w : ∀ k q, w (ix2 k q) = W.w k (256 * b + (q : ℕ))
  s : ∀ j q : Fin 256, s (ix2 j q) = if (j : ℕ) / 64 = (q : ℕ) / 64 then Ideal.ofBits .bf16 0x3C80#16 else 0
  cos : ∀ q : Fin 256, cos (ix2 r q) = if h : (q : ℕ) % 64 < 8 then R.cs ⟨(q : ℕ) % 64, h⟩
    else if h : (q : ℕ) % 64 < 16 then R.cs ⟨(q : ℕ) % 64 - 8, by omega⟩ else 1
  sa : ∀ q : Fin 256, sa (ix2 r q) = if h : (q : ℕ) % 64 < 8 then -R.sn ⟨(q : ℕ) % 64, h⟩ else 0
  sb : ∀ q : Fin 256, sb (ix2 r q) = if (q : ℕ) % 64 < 8 then 0
    else if h : (q : ℕ) % 64 < 16 then R.sn ⟨(q : ℕ) % 64 - 8, by omega⟩ else 0
  hw : ∀ q : Fin 256, hw (ix2 0 q) = W.hw (256 * b + (q : ℕ))
  real : ∀ c, ∃ z : ℝ, R.z W c = z

variable {R : Row} {W : Weights} {r : Fin 512} {b : ℕ} {xn : FVec Ideal S512x1024 .bf16} {w : FVec Ideal S1024x256 .bf16}
    {s : FVec Ideal S256x256 .bf16} {cos sa sb : FVec Ideal S512x256 .f32} {hw : FVec Ideal S1x256 .f32}

theorem z_at (h : Reads R W r b xn w s cos sa sb hw) (q : Fin 256) : k0_pay12 (F := Ideal) xn w (ix2 r q) = R.z W (256 * b + (q : ℕ)) := by
  rw [pay12_at]
  exact Finset.sum_congr rfl fun k _ => congrArg₂ (· * ·) (h.n k) (h.w k q)

/-- The two averaged parts of a square make the segment's mean square. -/
theorem ms_at (h : Reads R W r b xn w s cos sa sb hw) (q : Fin 256) :
    k0_pay13 (F := Ideal) xn w s s (ix2 r q) = R.ms W ((256 * b + (q : ℕ)) / 64) := by
  have hr := h.real
  choose f hf using hr
  rw [pay13_at]
  simp only [z_at h, h.s, hf, ← EReal.coe_mul, ← EReal.coe_sub, sub_self]
  rw [Cert.Inproj.seg_mean (fun j => f (256 * b + (j : ℕ)) * f (256 * b + (j : ℕ))) q]
  unfold Row.ms
  simp only [hf, EReal.coe_zero, zero_mul, Finset.sum_const_zero, add_zero, ← EReal.coe_mul]
  have e : ∀ d : Fin 64, 256 * b + (64 * ((q : ℕ) / 64) + (d : ℕ)) = 64 * ((256 * b + (q : ℕ)) / 64) + (d : ℕ) := by
    intro d
    omega
  simp only [e]

/-- A block of heads is the row's rotated, normalised projection. -/
theorem rope_at (h : Reads R W r b xn w s cos sa sb hw) (q : Fin 256) :
    k0_pay14 (F := Ideal) cos sa sb (k0_pay12 (F := Ideal) xn w) (k0_pay13 (F := Ideal) xn w s s) eps hw (ix2 r q)
      = rope (R.y W) R.cs R.sn (256 * b + (q : ℕ)) := by
  have hq : (256 * b + (q : ℕ)) % 64 = (q : ℕ) % 64 := by omega
  have hy : ∀ q : Fin 256, k0_pay12 (F := Ideal) xn w (ix2 r q) * Ideal.rsqrt (k0_pay13 (F := Ideal) xn w s s (ix2 r q) + eps) * hw (ix2 0 q)
      = R.y W (256 * b + (q : ℕ)) := by
    intro q
    rw [z_at h, ms_at h, h.hw]
    rfl
  rw [pay14_at, hy, hy, hy, h.cos, h.sa, h.sb]
  unfold rope
  by_cases h8 : (q : ℕ) % 64 < 8
  · have e : 256 * b + ((q : ℕ) + 256 - 248) % 256 = 256 * b + (q : ℕ) + 8 := by omega
    simp only [hq, h8, dif_pos, if_pos, e, mul_zero, add_zero, mul_neg, sub_eq_add_neg]
  · by_cases h16 : (q : ℕ) % 64 < 16
    · have e : 256 * b + ((q : ℕ) + 256 - 8) % 256 = 256 * b + (q : ℕ) - 8 := by omega
      simp only [hq, h8, h16, dif_pos, dif_neg, if_neg, not_false_eq_true, e, mul_zero, add_zero]
    · simp only [hq, h8, h16, dif_neg, if_neg, not_false_eq_true, mul_zero, add_zero, mul_one]

/-- The first block's cut of the same text. -/
theorem block0 (x : FVec Ideal S512x1024 .f32) (nw : FVec Ideal S1x1024 .f32) (h : Reads R W r b (k0_pay3 (F := Ideal) x nw) w s cos sa sb hw) (q : Fin 256) :
    k0_pay11 (F := Ideal) cos sa sb (k0_pay7 x nw w) (k0_pay8 x nw w) (k0_pay9 x nw w) (k0_pay10 x nw w) s s hw (ix2 r q)
      = rope (R.y W) R.cs R.sn (256 * b + (q : ℕ)) := rope_at h q

theorem block1 (h : Reads R W r b xn w s cos sa sb hw) (q : Fin 256) :
    k0_pay14 (F := Ideal) cos sa sb (k0_pay12 xn w) (k0_pay13 xn w s s) (Scalar.ofBits .f32 0x358637BD#32) hw (ix2 r q)
      = rope (R.y W) R.cs R.sn (256 * b + (q : ℕ)) := rope_at h q

theorem block2 (h : Reads R W r b xn w s cos sa sb hw) (q : Fin 256) :
    k0_pay18 (F := Ideal) sb (k0_pay15 xn w s s hw) (k0_pay16 xn cos w s s hw) (k0_pay17 xn sa w s s hw) (ix2 r q)
      = rope (R.y W) R.cs R.sn (256 * b + (q : ℕ)) := rope_at h q

theorem block3 (h : Reads R W r b xn w s cos sa sb hw) (q : Fin 256) :
    k0_pay19 (F := Ideal) xn cos sa sb w s s hw (ix2 r q) = rope (R.y W) R.cs R.sn (256 * b + (q : ℕ)) := rope_at h q

theorem block4 (h : Reads R W r b xn w s cos sa sb hw) (q : Fin 256) :
    k0_pay21 (F := Ideal) xn cos sa sb (k0_pay20 w) (constant S512x256 .f32 0x00000000#32) s s hw (ix2 r q)
      = rope (R.y W) R.cs R.sn (256 * b + (q : ℕ)) := rope_at h q

theorem block5 (h : Reads R W r b xn w s cos sa sb hw) (q : Fin 256) :
    k0_pay27 (F := Ideal) cos sa sb (k0_pay22 xn w) (k0_pay25 xn w) (k0_pay26 xn w s) s hw (ix2 r q)
      = rope (R.y W) R.cs R.sn (256 * b + (q : ℕ)) := rope_at h q

/-- A rectangle of columns, at an index. -/
theorem ld_at {e : EltTy} {n c o l : ℕ} (v : (⟨2, ![n, c]⟩ : Shape).Idx → Elt Ideal e) (inb : ∀ a, ![0, o] a + ![n, l] a ≤ ![n, c] a) (k : Fin n) (q : Fin l) (h : o + q < c) :
    View.ld (Val := Elt Ideal) (e' := e) v (Rect.unit (s := ⟨2, ![n, c]⟩) ![0, o] ![n, l] inb) (ix2 k q) = v (ix2 k ⟨o + q, h⟩) := by
  pointwise
  refine congrArg v (funext fun a => Fin.ext ?_)
  fin_cases a
  · exact Nat.zero_add _
  · rfl

/-- What the blocks of a point hold for row `r`. -/
structure Blocks (R : Row) (W : Weights) (r : Fin 512) (x0 : FVec Ideal S512x1024 .f32) (x1 : FVec Ideal S1x1024 .f32) (x2 : FVec Ideal S1024x4864 .bf16)
    (x3 : FVec Ideal S1x1536 .f32) (x4 x5 x6 : FVec Ideal S512x128 .f32) (x7 : FVec Ideal S256x256 .bf16) : Prop where
  x : ∀ k, x0 (ix2 r k) = R.x k
  nw : ∀ k, x1 (ix2 0 k) = W.nw k
  w : ∀ (k : Fin 1024) (c : Fin 4864), x2 (ix2 k c) = W.w k c
  hw : ∀ c : Fin 1536, x3 (ix2 0 c) = W.hw c
  cos : ∀ q : Fin 128, x4 (ix2 r q) = if h : (q : ℕ) % 64 < 8 then R.cs ⟨(q : ℕ) % 64, h⟩
    else if h : (q : ℕ) % 64 < 16 then R.cs ⟨(q : ℕ) % 64 - 8, by omega⟩ else 1
  sa : ∀ q : Fin 128, x5 (ix2 r q) = if h : (q : ℕ) % 64 < 8 then -R.sn ⟨(q : ℕ) % 64, h⟩ else 0
  sb : ∀ q : Fin 128, x6 (ix2 r q) = if (q : ℕ) % 64 < 8 then 0
    else if h : (q : ℕ) % 64 < 16 then R.sn ⟨(q : ℕ) % 64 - 8, by omega⟩ else 0
  s : ∀ j q : Fin 256, x7 (ix2 j q) = if (j : ℕ) / 64 = (q : ℕ) / 64 then Ideal.ofBits .bf16 0x3C80#16 else 0
  real : ∀ c, ∃ z : ℝ, R.z W c = z

variable {x0 : FVec Ideal S512x1024 .f32} {x1 : FVec Ideal S1x1024 .f32} {x2 : FVec Ideal S1024x4864 .bf16}
    {x3 : FVec Ideal S1x1536 .f32} {x4 x5 x6 : FVec Ideal S512x128 .f32} {x7 : FVec Ideal S256x256 .bf16}

theorem n_at (B : Blocks R W r x0 x1 x2 x3 x4 x5 x6 x7) (k : Fin 1024) : k0_pay3 (F := Ideal) x0 x1 (ix2 r k) = R.n W k := by
  rw [pay3_at]
  simp only [B.x, B.nw]
  rfl

/-- Each of the six blocks of heads reads its row. -/
theorem reads (B : Blocks R W r x0 x1 x2 x3 x4 x5 x6 x7) (b : ℕ) (hb : b < 6)
    (i1 : ∀ a, ![0, 256 * b] a + ![1024, 256] a ≤ ![1024, 4864] a) (i2 : ∀ a, ![0, 256 * b] a + ![1, 256] a ≤ ![1, 1536] a) :
    Reads R W r b (k0_pay3 (F := Ideal) x0 x1) (View.ld (Val := Elt Ideal) (e' := .bf16) x2 (Rect.unit (s := S1024x4864) ![0, 256 * b] ![1024, 256] i1)) x7
      (k0_pay4 (F := Ideal) x4 x4) (k0_pay5 (F := Ideal) x5 x5) (k0_pay6 (F := Ideal) x6 x6)
      (View.ld (Val := Elt Ideal) (e' := .f32) x3 (Rect.unit (s := S1x1536) ![0, 256 * b] ![1, 256] i2)) where
  n := n_at B
  w k q := (ld_at (e := .bf16) x2 i1 k q (by omega)).trans (B.w k _)
  s := B.s
  cos q := by
    rw [pay4_at]
    by_cases h : (q : ℕ) < 128
    · rw [dif_pos h, B.cos]
    · have e : ((q : ℕ) - 128) % 64 = (q : ℕ) % 64 := by omega
      rw [dif_neg h, B.cos]
      simp only [e]
  sa q := by
    rw [pay5_at]
    by_cases h : (q : ℕ) < 128
    · rw [dif_pos h, B.sa]
    · have e : ((q : ℕ) - 128) % 64 = (q : ℕ) % 64 := by omega
      rw [dif_neg h, B.sa]
      simp only [e]
  sb q := by
    rw [pay6_at]
    by_cases h : (q : ℕ) < 128
    · rw [dif_pos h, B.sb]
    · have e : ((q : ℕ) - 128) % 64 = (q : ℕ) % 64 := by omega
      rw [dif_neg h, B.sb]
      simp only [e]
  hw q := (ld_at (e := .f32) x3 i2 0 q (by omega)).trans (B.hw _)
  real := B.real

theorem out_rope (b : ℕ) (hb : b < 6) (q : Fin 256) : R.out W (256 * b + q) = rope (R.y W) R.cs R.sn (256 * b + q) := by
  unfold Row.out
  rw [if_pos (by omega)]

/-- A plain column of the projection, in the values or beyond the gap. -/
theorem plain (B : Blocks R W r x0 x1 x2 x3 x4 x5 x6 x7) (o l : ℕ) (ho : 1536 ≤ o) (hl : o + l ≤ 4864) (q : Fin l)
    (i1 : ∀ a, ![0, o] a + ![1024, l] a ≤ ![1024, 4864] a) :
    (∑ k : Fin 1024, k0_pay3 (F := Ideal) x0 x1 (ix2 r k) * View.ld (Val := Elt Ideal) (e' := .bf16) x2 (Rect.unit (s := S1024x4864) ![0, o] ![1024, l] i1) (ix2 k q)) = R.z W (o + q) :=
  Finset.sum_congr rfl fun k _ => congrArg₂ (· * ·) (n_at B k) ((ld_at (e := .bf16) x2 i1 k q (by omega)).trans (B.w k _))

end Cert.InprojIdeal.Tile

end
-- ==== Proof.InprojPieces.lean ====
/- The stores of the input projection's kernel, each as the columns of the row it writes. -/
module

public import proofs.«01_k».proof.Proof.Gen.InprojIdeal.Frame
public import proofs.«01_k».proof.Proof.InprojTile
public import Idealize.ShloMosaic.Lib.Pipeline.ValueKit
public import Idealize.ShloMosaic.Lib.Pointwise

@[expose] public section

set_option maxRecDepth 16384

noncomputable section

namespace Cert.InprojIdeal.Tile

open Idealize.ShloMosaic
open Cert.InprojIdeal Cert.InprojIdeal.Gen
open Cert.Inproj (Row Weights eps rope)

variable {R : Row} {W : Weights} {r : Fin 512} {x0 : FVec Ideal S512x1024 .f32} {x1 : FVec Ideal S1x1024 .f32} {x2 : FVec Ideal S1024x4864 .bf16}
    {x3 : FVec Ideal S1x1536 .f32} {x4 x5 x6 : FVec Ideal S512x128 .f32} {x7 : FVec Ideal S256x256 .bf16}

/-- A block of columns of the projection's weights. -/
abbrev wb (x2 : FVec Ideal S1024x4864 .bf16) (o : ℕ) (i : ∀ a, ![0, o] a + ![1024, 256] a ≤ ![1024, 4864] a) : FVec Ideal S1024x256 .bf16 :=
  View.ld (Val := Elt Ideal) (e' := .bf16) x2 (Rect.unit (s := S1024x4864) ![0, o] ![1024, 256] i)

/-- A block of the heads' normalisation weights. -/
abbrev hb (x3 : FVec Ideal S1x1536 .f32) (o : ℕ) (i : ∀ a, ![0, o] a + ![1, 256] a ≤ ![1, 1536] a) : FVec Ideal S1x256 .f32 :=
  View.ld (Val := Elt Ideal) (e' := .f32) x3 (Rect.unit (s := S1x1536) ![0, o] ![1, 256] i)

theorem out_gap (c : ℕ) (h : 2304 ≤ c) (h' : c < 2560) : R.out W c = 0 := by
  unfold Row.out
  rw [if_neg (by omega), if_neg (by omega), if_pos h']

theorem out_v (c : ℕ) (h : 1536 ≤ c) (h' : c < 2304) : R.out W c = R.z W c := by
  unfold Row.out
  rw [if_neg (by omega), if_pos h']

theorem out_rest (c k : ℕ) (h : 2560 ≤ c) (h' : k + 256 = c) : R.out W c = R.z W k := by
  unfold Row.out
  rw [if_neg (by omega), if_neg (by omega), if_neg (by omega)]
  exact congrArg _ (by omega)

/-- A block's reads, its offset written out. -/
theorem reads' (B : Blocks R W r x0 x1 x2 x3 x4 x5 x6 x7) (b o : ℕ) (hb' : b < 6) (ho : o = 256 * b) (i1 i2) :
    Reads R W r b (k0_pay3 (F := Ideal) x0 x1) (wb x2 o i1) x7 (k0_pay4 (F := Ideal) x4 x4) (k0_pay5 (F := Ideal) x5 x5) (k0_pay6 (F := Ideal) x6 x6) (hb x3 o i2) := by
  subst ho
  exact reads B b hb' i1 i2

/-! The stores, piece by piece. -/

theorem piece0 (B : Blocks R W r x0 x1 x2 x3 x4 x5 x6 x7) (i1 i2) (q : Fin 256) :
    k0_pay11 (F := Ideal) (k0_pay4 x4 x4) (k0_pay5 x5 x5) (k0_pay6 x6 x6) (k0_pay7 x0 x1 (wb x2 0 i1)) (k0_pay8 x0 x1 (wb x2 0 i1)) (k0_pay9 x0 x1 (wb x2 0 i1)) (k0_pay10 x0 x1 (wb x2 0 i1)) x7 x7 (hb x3 0 i2) (ix2 r q) = R.out W (0 + (q : ℕ)) :=
  (block0 _ _ (reads' B 0 0 (by decide) rfl i1 i2) q).trans (out_rope 0 (by decide) q).symm

theorem piece1 (B : Blocks R W r x0 x1 x2 x3 x4 x5 x6 x7) (i1 i2) (q : Fin 256) :
    k0_pay14 (F := Ideal) (k0_pay4 x4 x4) (k0_pay5 x5 x5) (k0_pay6 x6 x6) (k0_pay12 (k0_pay3 x0 x1) (wb x2 256 i1)) (k0_pay13 (k0_pay3 x0 x1) (wb x2 256 i1) x7 x7) (FloatOps.ofBits .f32 0x358637BD#32) (hb x3 256 i2) (ix2 r q) = R.out W (256 + (q : ℕ)) :=
  (block1 (reads' B 1 256 (by decide) rfl i1 i2) q).trans (out_rope 1 (by decide) q).symm

theorem piece2 (B : Blocks R W r x0 x1 x2 x3 x4 x5 x6 x7) (i1 i2) (q : Fin 256) :
    k0_pay18 (F := Ideal) (k0_pay6 x6 x6) (k0_pay15 (k0_pay3 x0 x1) (wb x2 512 i1) x7 x7 (hb x3 512 i2)) (k0_pay16 (k0_pay3 x0 x1) (k0_pay4 x4 x4) (wb x2 512 i1) x7 x7 (hb x3 512 i2)) (k0_pay17 (k0_pay3 x0 x1) (k0_pay5 x5 x5) (wb x2 512 i1) x7 x7 (hb x3 512 i2)) (ix2 r q) = R.out W (512 + (q : ℕ)) :=
  (block2 (reads' B 2 512 (by decide) rfl i1 i2) q).trans (out_rope 2 (by decide) q).symm

theorem piece3 (B : Blocks R W r x0 x1 x2 x3 x4 x5 x6 x7) (i1 i2) (q : Fin 256) :
    k0_pay19 (F := Ideal) (k0_pay3 x0 x1) (k0_pay4 x4 x4) (k0_pay5 x5 x5) (k0_pay6 x6 x6) (wb x2 768 i1) x7 x7 (hb x3 768 i2) (ix2 r q) = R.out W (768 + (q : ℕ)) :=
  (block3 (reads' B 3 768 (by decide) rfl i1 i2) q).trans (out_rope 3 (by decide) q).symm

theorem piece4 (B : Blocks R W r x0 x1 x2 x3 x4 x5 x6 x7) (i1 i2) (q : Fin 256) :
    k0_pay21 (F := Ideal) (k0_pay3 x0 x1) (k0_pay4 x4 x4) (k0_pay5 x5 x5) (k0_pay6 x6 x6) (k0_pay20 (wb x2 1024 i1)) (constant S512x256 .f32 0x00000000#32) x7 x7 (hb x3 1024 i2) (ix2 r q) = R.out W (1024 + (q : ℕ)) :=
  (block4 (reads' B 4 1024 (by decide) rfl i1 i2) q).trans (out_rope 4 (by decide) q).symm

theorem piece5 (B : Blocks R W r x0 x1 x2 x3 x4 x5 x6 x7) (i1 i2) (q : Fin 256) :
    k0_pay27 (F := Ideal) (k0_pay4 x4 x4) (k0_pay5 x5 x5) (k0_pay6 x6 x6) (k0_pay22 (k0_pay3 x0 x1) (wb x2 1280 i1)) (k0_pay25 (k0_pay3 x0 x1) (wb x2 1280 i1)) (k0_pay26 (k0_pay3 x0 x1) (wb x2 1280 i1) x7) x7 (hb x3 1280 i2) (ix2 r q) = R.out W (1280 + (q : ℕ)) :=
  (block5 (reads' B 5 1280 (by decide) rfl i1 i2) q).trans (out_rope 5 (by decide) q).symm

theorem piece_v (B : Blocks R W r x0 x1 x2 x3 x4 x5 x6 x7) (i) (q : Fin 768) :
    k0_pay28 (F := Ideal) (k0_pay3 x0 x1) (View.ld (Val := Elt Ideal) (e' := .bf16) x2 (Rect.unit (s := S1024x4864) ![0, 1536] ![1024, 768] i)) (ix2 r q) = R.out W (1536 + (q : ℕ)) :=
  (pay28_at _ _ r q).trans ((plain B 1536 768 (by omega) (by omega) q i).trans (out_v (R := R) (W := W) (1536 + (q : ℕ)) (by omega) (by omega)).symm)

theorem piece_u (B : Blocks R W r x0 x1 x2 x3 x4 x5 x6 x7) (i) (q : Fin 512) :
    k0_pay29 (F := Ideal) (k0_pay3 x0 x1) (View.ld (Val := Elt Ideal) (e' := .bf16) x2 (Rect.unit (s := S1024x4864) ![0, 2304] ![1024, 512] i)) (ix2 r q) = R.out W (2560 + (q : ℕ)) :=
  (pay29_at _ _ r q).trans ((plain B 2304 512 (by omega) (by omega) q i).trans (out_rest (R := R) (W := W) (2560 + (q : ℕ)) (2304 + (q : ℕ)) (by omega) (by omega)).symm)

theorem piece_ga (B : Blocks R W r x0 x1 x2 x3 x4 x5 x6 x7) (i) (q : Fin 1024) :
    k0_pay30 (F := Ideal) (k0_pay3 x0 x1) (View.ld (Val := Elt Ideal) (e' := .bf16) x2 (Rect.unit (s := S1024x4864) ![0, 2816] ![1024, 1024] i)) (ix2 r q) = R.out W (3072 + (q : ℕ)) :=
  (pay30_at _ _ r q).trans ((plain B 2816 1024 (by omega) (by omega) q i).trans (out_rest (R := R) (W := W) (3072 + (q : ℕ)) (2816 + (q : ℕ)) (by omega) (by omega)).symm)

theorem piece_gb (B : Blocks R W r x0 x1 x2 x3 x4 x5 x6 x7) (i) (q : Fin 1024) :
    k0_pay1 (F := Ideal) (k0_pay3 x0 x1) (View.ld (Val := Elt Ideal) (e' := .bf16) x2 (Rect.unit (s := S1024x4864) ![0, 3840] ![1024, 1024] i)) (ix2 r q) = R.out W (4096 + (q : ℕ)) :=
  (pay1_at _ _ r q).trans ((plain B 3840 1024 (by omega) (by omega) q i).trans (out_rest (R := R) (W := W) (4096 + (q : ℕ)) (3840 + (q : ℕ)) (by omega) (by omega)).symm)

theorem piece_gap (q : Fin 256) : k0_pay2 (F := Ideal) (ix2 r q) = R.out W (2304 + (q : ℕ)) :=
  (pay2_at r q).trans (out_gap _ (by omega) (by omega)).symm

end Cert.InprojIdeal.Tile

end
-- ==== Proof.InprojPoint.lean ====
/- What a point of the input projection's kernel leaves in its output block. -/
module

public import proofs.«01_k».proof.Proof.Gen.InprojIdeal.Frame
public import proofs.«01_k».proof.Proof.InprojPieces
public import Idealize.ShloMosaic.Lib.Pipeline.ValueKit
public import Idealize.ShloMosaic.Lib.Pointwise

@[expose] public section

set_option maxRecDepth 16384

noncomputable section

namespace Cert.InprojIdeal.Tile

open Idealize.ShloMosaic
open Cert.InprojIdeal Cert.InprojIdeal.Gen
open Cert.Inproj (Row Weights eps rope)

/-- What a point stores, at every index. -/
theorem point (c : Dev nD) (t : Fin cfg0.N) (R : Fin 512 → Row) (W : Weights) {x0 x1 x2 x3 x4 x5 x6 x7}
    (B : ∀ r, Blocks (R r) W r x0 x1 x2 x3 x4 x5 x6 x7) (y : S512x5120.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 x6 x7 y
      = (R (y 0)).out W (y 1) := by
  frame_out
  canon_tiles x h using (View.cover_of_tiledBy _ ![512, 256] (by sl_kernel_rfl) y)
  all_goals
    have e0 : y 0 = x 0 := Fin.ext (by omega)
    have hx : x = ix2 (x 0) (x 1) := eq_ix2 x
    have B' := B (x 0)
  · rw [e0, show (y 1 : ℕ) = 2304 + (x 1 : ℕ) by omega]
    exact (congrArg _ hx).trans (piece_gap (x 1))
  · rw [e0, show (y 1 : ℕ) = 4096 + (x 1 : ℕ) by omega]
    exact (congrArg _ hx).trans (piece_gb B' _ (x 1))
  · rw [e0, show (y 1 : ℕ) = 3072 + (x 1 : ℕ) by omega]
    exact (congrArg _ hx).trans (piece_ga B' _ (x 1))
  · rw [e0, show (y 1 : ℕ) = 2560 + (x 1 : ℕ) by omega]
    exact (congrArg _ hx).trans (piece_u B' _ (x 1))
  · rw [e0, show (y 1 : ℕ) = 1536 + (x 1 : ℕ) by omega]
    exact (congrArg _ hx).trans (piece_v B' _ (x 1))
  · rw [e0, show (y 1 : ℕ) = 1280 + (x 1 : ℕ) by omega]
    exact (congrArg _ hx).trans (piece5 B' _ _ (x 1))
  · rw [e0, show (y 1 : ℕ) = 1024 + (x 1 : ℕ) by omega]
    exact (congrArg _ hx).trans (piece4 B' _ _ (x 1))
  · rw [e0, show (y 1 : ℕ) = 768 + (x 1 : ℕ) by omega]
    exact (congrArg _ hx).trans (piece3 B' _ _ (x 1))
  · rw [e0, show (y 1 : ℕ) = 512 + (x 1 : ℕ) by omega]
    exact (congrArg _ hx).trans (piece2 B' _ _ (x 1))
  · rw [e0, show (y 1 : ℕ) = 256 + (x 1 : ℕ) by omega]
    exact (congrArg _ hx).trans (piece1 B' _ _ (x 1))
  · rw [e0, show (y 1 : ℕ) = 0 + (x 1 : ℕ) by omega]
    exact (congrArg _ hx).trans (piece0 B' _ _ (x 1))

end Cert.InprojIdeal.Tile

end
-- ==== Proof.InprojArrays.lean ====
/- The input projection's rows and weights, out of the arrays. -/
module

public import proofs.«01_k».proof.Proof.InprojSpec
public import Idealize.ShloMosaic.Lib.Pointwise

@[expose] public section

noncomputable section

namespace Cert.Inproj

open Idealize.ShloMosaic

/-- The angle of a position in one of the eight frequencies. -/
def ang (p : ℕ) (d : Fin 8) : EReal :=
  (FloatOps.sitofp .f32 (BitVec.ofNat 32 p) : Ideal .f32)
    * Ideal.pow (Ideal.ofBits .f32 0x48F42400#32)
        (Ideal.div (-(FloatOps.sitofp .f32 (BitVec.ofNat 32 (d : ℕ)) : Ideal .f32)) (Ideal.ofBits .f32 0x41000000#32))

def cosA (p : ℕ) (d : Fin 8) : EReal := Ideal.cos (ang p d)

def sinA (p : ℕ) (d : Fin 8) : EReal := Ideal.sin (ang p d)

/-- Row `r` of the arrays, at its position in its sequence. -/
def rowAt (x : FVec Ideal ⟨2, ![16384, 1024]⟩ .f32) (r : Fin 16384) : Row where
  x k := x (ix2 r k)
  cs := cosA ((r : ℕ) % 8192)
  sn := sinA ((r : ℕ) % 8192)

/-- The weights, out of their arrays: the queries' normalisation holds for the first 768 columns, the keys' for the next. -/
def weightsOf (nw : FVec Ideal ⟨1, ![1024]⟩ .f32) (w : FVec Ideal ⟨2, ![1024, 4864]⟩ .f32) (qn kn : FVec Ideal ⟨1, ![64]⟩ .f32) : Weights where
  nw k := nw (ix1 k)
  w k c := if h : c < 4864 then w (ix2 k ⟨c, h⟩) else 0
  hw c := if c < 768 then qn (ix1 ⟨c % 64, by omega⟩) else kn (ix1 ⟨c % 64, by omega⟩)

end Cert.Inproj

end
-- ==== Proof.InprojHost.lean ====
/- What the input projection's host operations hand the kernel. -/
module

public import proofs.«01_k».proof.Proof.Gen.InprojIdeal.Frame
public import proofs.«01_k».proof.Proof.InprojTile
public import proofs.«01_k».proof.Proof.InprojArrays
public import Idealize.ShloMosaic.Lib.Pipeline.ValueKit
public import Idealize.ShloMosaic.Lib.Pointwise

@[expose] public section

set_option maxRecDepth 16384

noncomputable section

namespace Cert.InprojIdeal.Host

open Idealize.ShloMosaic Idealize.ShloMosaic.TcCoe Idealize.SL.Sem
open Cert.InprojIdeal Cert.InprojIdeal.Gen

variable (m : (ℓ : Loc nD τ sig) → Buf (Elt Ideal) ℓ)

/-- The host operations in three stretches: the angles and constants, the tables' columns, and the rest. -/
theorem split (σ : Valuation τ sig (Elt Ideal)) (b) :
    StableHlo.after hostOps0 σ b = StableHlo.after (hostOps0.drop 32) (StableHlo.after ((hostOps0.drop 28).take 4) (StableHlo.after (hostOps0.take 28) σ)) b := rfl

theorem v22_eq (σ : Valuation τ sig (Elt Ideal)) : StableHlo.after ((hostOps0.drop 28).take 4) σ main_v22
    = concatenate S16384x64 1 [⟨S16384x8, σ main_v17⟩, ⟨S16384x8, σ main_v17⟩, ⟨S16384x48, σ main_v19⟩] concatenates_S16384x8_S16384x8_S16384x48_S16384x64_d1 := by
  simp only [hostOps0, List.drop_succ_cons, List.drop_zero, List.take_succ_cons, List.take_zero, StableHlo.after_cons, StableHlo.after_nil]
  rw [StableHlo.nary_result_ne (h := by decide), StableHlo.nary_result_ne (h := by decide), StableHlo.unary_result_ne (h := by decide), StableHlo.nary_result]
  rfl

theorem v24_eq (σ : Valuation τ sig (Elt Ideal)) : StableHlo.after ((hostOps0.drop 28).take 4) σ main_v24
    = concatenate S16384x64 1 [⟨S16384x8, (Host.negf (F := Ideal) (φ := .f32) (σ main_v18) : FVec Ideal S16384x8 .f32)⟩, ⟨S16384x8, σ main_v21⟩, ⟨S16384x48, σ main_v20⟩] concatenates_S16384x8_S16384x8_S16384x48_S16384x64_d1 := by
  simp only [hostOps0, List.drop_succ_cons, List.drop_zero, List.take_succ_cons, List.take_zero, StableHlo.after_cons, StableHlo.after_nil]
  rw [StableHlo.nary_result_ne (h := by decide), StableHlo.nary_result]
  have h23 : StableHlo.after ((hostOps0.drop 28).take 2) σ main_v23 = (Host.negf (F := Ideal) (φ := .f32) (σ main_v18) : FVec Ideal S16384x8 .f32) := by
    simp only [hostOps0, List.drop_succ_cons, List.drop_zero, List.take_succ_cons, List.take_zero, StableHlo.after_cons, StableHlo.after_nil]
    rw [StableHlo.unary_result, StableHlo.nary_result_ne (h := by decide)]
  have h21 : StableHlo.after ((hostOps0.drop 28).take 2) σ main_v21 = σ main_v21 := by
    simp only [hostOps0, List.drop_succ_cons, List.drop_zero, List.take_succ_cons, List.take_zero, StableHlo.after_cons, StableHlo.after_nil]
    rw [StableHlo.unary_result_ne (h := by decide), StableHlo.nary_result_ne (h := by decide)]
  have h20 : StableHlo.after ((hostOps0.drop 28).take 2) σ main_v20 = σ main_v20 := by
    simp only [hostOps0, List.drop_succ_cons, List.drop_zero, List.take_succ_cons, List.take_zero, StableHlo.after_cons, StableHlo.after_nil]
    rw [StableHlo.unary_result_ne (h := by decide), StableHlo.nary_result_ne (h := by decide)]
  rw [← h23, ← h21, ← h20]
  rfl

theorem v25_eq (σ : Valuation τ sig (Elt Ideal)) : StableHlo.after ((hostOps0.drop 28).take 4) σ main_v25
    = concatenate S16384x64 1 [⟨S16384x8, σ main_v21⟩, ⟨S16384x8, σ main_v18⟩, ⟨S16384x48, σ main_v20⟩] concatenates_S16384x8_S16384x8_S16384x48_S16384x64_d1 := by
  have h : ∀ b : Ref sig .tc, b ≠ main_v22 → b ≠ main_v23 → b ≠ main_v24 → StableHlo.after ((hostOps0.drop 28).take 3) σ (Proc.devRef .tc b) = σ (Proc.devRef .tc b) := by
    intro b h1 h2 h3
    simp only [hostOps0, List.drop_succ_cons, List.drop_zero, List.take_succ_cons, List.take_zero, StableHlo.after_cons, StableHlo.after_nil]
    rw [StableHlo.nary_result_ne (h := h3), StableHlo.unary_result_ne (h := h2), StableHlo.nary_result_ne (h := h1)]
  rw [← h main_v21 (by decide) (by decide) (by decide), ← h main_v18 (by decide) (by decide) (by decide), ← h main_v20 (by decide) (by decide) (by decide)]
  simp only [hostOps0, List.drop_succ_cons, List.drop_zero, List.take_succ_cons, List.take_zero, StableHlo.after_cons, StableHlo.after_nil]
  rw [StableHlo.nary_result]
  rfl

theorem v17_at (σ : Valuation τ sig (Elt Ideal)) (r : Fin 16384) (d : Fin 8) :
    StableHlo.after (hostOps0.take 28) σ main_v17 (ix2 r d) = Cert.Inproj.cosA ((r : ℕ) % 8192) d := by
  unfold Cert.Inproj.cosA Cert.Inproj.ang
  simp only [hostOps0, List.take_succ_cons, List.take_zero]
  entry_read
  pointwise

theorem v18_at (σ : Valuation τ sig (Elt Ideal)) (r : Fin 16384) (d : Fin 8) :
    StableHlo.after (hostOps0.take 28) σ main_v18 (ix2 r d) = Cert.Inproj.sinA ((r : ℕ) % 8192) d := by
  unfold Cert.Inproj.sinA Cert.Inproj.ang
  simp only [hostOps0, List.take_succ_cons, List.take_zero]
  entry_read
  pointwise

theorem v19_at (σ : Valuation τ sig (Elt Ideal)) (r : Fin 16384) (d : Fin 48) : StableHlo.after (hostOps0.take 28) σ main_v19 (ix2 r d) = (1 : EReal) := by
  have e : Ideal.ofBits .f32 0x3F800000#32 = 1 := by
    simp [Ideal.ofBits, Ideal.ieee, -EReal.coe_mul]
    norm_num
  rw [← e]
  simp only [hostOps0, List.take_succ_cons, List.take_zero]
  entry_read
  pointwise

theorem v20_at (σ : Valuation τ sig (Elt Ideal)) (r : Fin 16384) (d : Fin 48) : StableHlo.after (hostOps0.take 28) σ main_v20 (ix2 r d) = (0 : EReal) := by
  have e : Ideal.ofBits .f32 0x00000000#32 = 0 := by simp [Ideal.ofBits, Ideal.ieee]
  rw [← e]
  simp only [hostOps0, List.take_succ_cons, List.take_zero]
  entry_read
  pointwise

theorem v21_at (σ : Valuation τ sig (Elt Ideal)) (r : Fin 16384) (d : Fin 8) : StableHlo.after (hostOps0.take 28) σ main_v21 (ix2 r d) = (0 : EReal) := by
  have e : Ideal.ofBits .f32 0x00000000#32 = 0 := by simp [Ideal.ofBits, Ideal.ieee]
  rw [← e]
  simp only [hostOps0, List.take_succ_cons, List.take_zero]
  entry_read
  pointwise

/-- The last stretch doubles a table's columns. -/
theorem v28_of (σ : Valuation τ sig (Elt Ideal)) (r : Fin 16384) (q : Fin 128) :
    StableHlo.after (hostOps0.drop 32) σ main_v28 (ix2 r q) = σ main_v22 (ix2 r ⟨(q : ℕ) % 64, by omega⟩) := by
  simp only [hostOps0, List.drop_succ_cons, List.drop_zero]
  entry_read
  pointwise

theorem v31_of (σ : Valuation τ sig (Elt Ideal)) (r : Fin 16384) (q : Fin 128) :
    StableHlo.after (hostOps0.drop 32) σ main_v31 (ix2 r q) = σ main_v24 (ix2 r ⟨(q : ℕ) % 64, by omega⟩) := by
  simp only [hostOps0, List.drop_succ_cons, List.drop_zero]
  entry_read
  pointwise

theorem v34_of (σ : Valuation τ sig (Elt Ideal)) (r : Fin 16384) (q : Fin 128) :
    StableHlo.after (hostOps0.drop 32) σ main_v34 (ix2 r q) = σ main_v25 (ix2 r ⟨(q : ℕ) % 64, by omega⟩) := by
  simp only [hostOps0, List.drop_succ_cons, List.drop_zero]
  entry_read
  pointwise

/-- Three pieces of eight, eight and 48 columns beside each other. -/
theorem cat_at (a b : FVec Ideal S16384x8 .f32) (z : FVec Ideal S16384x48 .f32) (r : Fin 16384) (d : Fin 64) :
    concatenate S16384x64 1 [⟨S16384x8, a⟩, ⟨S16384x8, b⟩, ⟨S16384x48, z⟩] concatenates_S16384x8_S16384x8_S16384x48_S16384x64_d1 (ix2 r d)
      = if h : (d : ℕ) < 8 then a (ix2 r ⟨d, h⟩) else if h : (d : ℕ) < 16 then b (ix2 r ⟨d - 8, by omega⟩) else z (ix2 r ⟨d - 16, by omega⟩) := by
  pointwise
  by_cases h8 : (d : ℕ) < 8
  · rw [dif_pos h8, dif_pos h8]
  · rw [dif_neg h8, dif_neg h8]
    by_cases h16 : (d : ℕ) < 16
    · rw [dif_pos (by omega), dif_pos h16]
    · rw [dif_neg (by omega), dif_neg h16]
      exact congrArg (fun k => z (ix2 r k)) (Fin.ext (by show (d : ℕ) - 8 - 8 = (d : ℕ) - 16; omega))

/-- The table of cosines. -/
theorem v28_at (c : Dev nD) (r : Fin 16384) (q : Fin 128) :
    V m c main_v28 (ix2 r q) = if h : (q : ℕ) % 64 < 8 then Cert.Inproj.cosA ((r : ℕ) % 8192) ⟨(q : ℕ) % 64, h⟩
      else if h : (q : ℕ) % 64 < 16 then Cert.Inproj.cosA ((r : ℕ) % 8192) ⟨(q : ℕ) % 64 - 8, by omega⟩ else 1 := by
  refine (congrFun (split _ main_v28) _).trans ((v28_of _ r q).trans ((congrFun (v22_eq _) _).trans ((cat_at _ _ _ r _).trans ?_)))
  by_cases h : (q : ℕ) % 64 < 8
  · rw [dif_pos h, dif_pos h]
    exact v17_at _ r _
  · rw [dif_neg h, dif_neg h]
    by_cases h : (q : ℕ) % 64 < 16
    · rw [dif_pos h, dif_pos h]
      exact v17_at _ r _
    · rw [dif_neg h, dif_neg h]
      exact v19_at _ r _

theorem v31_at (c : Dev nD) (r : Fin 16384) (q : Fin 128) :
    V m c main_v31 (ix2 r q) = if h : (q : ℕ) % 64 < 8 then -Cert.Inproj.sinA ((r : ℕ) % 8192) ⟨(q : ℕ) % 64, h⟩ else 0 := by
  refine (congrFun (split _ main_v31) _).trans ((v31_of _ r q).trans ((congrFun (v24_eq _) _).trans ((cat_at _ _ _ r _).trans ?_)))
  by_cases h : (q : ℕ) % 64 < 8
  · rw [dif_pos h, dif_pos h]
    exact congrArg (fun x : EReal => -x) (v18_at _ r ⟨(q : ℕ) % 64, h⟩)
  · rw [dif_neg h, dif_neg h]
    by_cases h : (q : ℕ) % 64 < 16
    · rw [dif_pos h]
      exact v21_at _ r _
    · rw [dif_neg h]
      exact v20_at _ r _

theorem v34_at (c : Dev nD) (r : Fin 16384) (q : Fin 128) :
    V m c main_v34 (ix2 r q) = if (q : ℕ) % 64 < 8 then 0
      else if h : (q : ℕ) % 64 < 16 then Cert.Inproj.sinA ((r : ℕ) % 8192) ⟨(q : ℕ) % 64 - 8, by omega⟩ else 0 := by
  refine (congrFun (split _ main_v34) _).trans ((v34_of _ r q).trans ((congrFun (v25_eq _) _).trans ((cat_at _ _ _ r _).trans ?_)))
  by_cases h : (q : ℕ) % 64 < 8
  · rw [dif_pos h, if_pos h]
    exact v21_at _ r _
  · rw [dif_neg h, if_neg h]
    by_cases h : (q : ℕ) % 64 < 16
    · rw [dif_pos h, dif_pos h]
      exact v18_at _ r _
    · rw [dif_neg h, dif_neg h]
      exact v20_at _ r _

end Cert.InprojIdeal.Host

end
-- ==== Proof.InprojLit.lean ====
/- The averaging matrix of the input projection, word by word. -/
module

public import proofs.«01_k».proof.InprojIdeal
public import Mathlib.Tactic.IntervalCases

@[expose] public section

set_option maxRecDepth 16384

namespace Cert.InprojIdeal.Lit

open Cert.InprojIdeal

/-! The matrix's rows come in four runs of 64 alike; a half of the first row of each run, at each of its words. -/

theorem row0 (i : Nat) : lit0t0_0 i = if i % 128 < 64 then 0x3C80#16 else 0x0000#16 := by
  have h : ∀ n : Fin 128, lit0t0_0 n = if (n : Nat) % 128 < 64 then 0x3C80#16 else 0x0000#16 := by decide +kernel
  have e := h ⟨i % 128, Nat.mod_lt _ (by decide)⟩
  unfold lit0t0_0 at e ⊢
  simp only [Nat.mod_mod] at e
  exact e

theorem row1 (i : Nat) : lit0t0_1 i = if i % 128 < 64 then 0x0000#16 else 0x0000#16 := by
  have h : ∀ n : Fin 128, lit0t0_1 n = if (n : Nat) % 128 < 64 then 0x0000#16 else 0x0000#16 := by decide +kernel
  have e := h ⟨i % 128, Nat.mod_lt _ (by decide)⟩
  unfold lit0t0_1 at e ⊢
  simp only [Nat.mod_mod] at e
  exact e

/-- Every row of the run is its first row. -/
theorem chunk0 (i : Nat) : lit0t1_0 i = if i / 128 % 2 = 0 then lit0t0_0 i else lit0t0_1 i := by
  unfold lit0t1_0
  have e : i / 128 % 2 = i / 128 % 128 % 2 := by omega
  rw [e]
  have h : i / 128 % 128 < 128 := Nat.mod_lt _ (by decide)
  generalize i / 128 % 128 = j at h
  interval_cases j
  all_goals rfl

theorem row128 (i : Nat) : lit0t0_128 i = if i % 128 < 64 then 0x0000#16 else 0x3C80#16 := by
  have h : ∀ n : Fin 128, lit0t0_128 n = if (n : Nat) % 128 < 64 then 0x0000#16 else 0x3C80#16 := by decide +kernel
  have e := h ⟨i % 128, Nat.mod_lt _ (by decide)⟩
  unfold lit0t0_128 at e ⊢
  simp only [Nat.mod_mod] at e
  exact e

theorem row129 (i : Nat) : lit0t0_129 i = if i % 128 < 64 then 0x0000#16 else 0x0000#16 := by
  have h : ∀ n : Fin 128, lit0t0_129 n = if (n : Nat) % 128 < 64 then 0x0000#16 else 0x0000#16 := by decide +kernel
  have e := h ⟨i % 128, Nat.mod_lt _ (by decide)⟩
  unfold lit0t0_129 at e ⊢
  simp only [Nat.mod_mod] at e
  exact e

/-- Every row of the run is its first row. -/
theorem chunk1 (i : Nat) : lit0t1_1 i = if i / 128 % 2 = 0 then lit0t0_128 i else lit0t0_129 i := by
  unfold lit0t1_1
  have e : i / 128 % 2 = i / 128 % 128 % 2 := by omega
  rw [e]
  have h : i / 128 % 128 < 128 := Nat.mod_lt _ (by decide)
  generalize i / 128 % 128 = j at h
  interval_cases j
  all_goals rfl

theorem row256 (i : Nat) : lit0t0_256 i = if i % 128 < 64 then 0x0000#16 else 0x0000#16 := by
  have h : ∀ n : Fin 128, lit0t0_256 n = if (n : Nat) % 128 < 64 then 0x0000#16 else 0x0000#16 := by decide +kernel
  have e := h ⟨i % 128, Nat.mod_lt _ (by decide)⟩
  unfold lit0t0_256 at e ⊢
  simp only [Nat.mod_mod] at e
  exact e

theorem row257 (i : Nat) : lit0t0_257 i = if i % 128 < 64 then 0x3C80#16 else 0x0000#16 := by
  have h : ∀ n : Fin 128, lit0t0_257 n = if (n : Nat) % 128 < 64 then 0x3C80#16 else 0x0000#16 := by decide +kernel
  have e := h ⟨i % 128, Nat.mod_lt _ (by decide)⟩
  unfold lit0t0_257 at e ⊢
  simp only [Nat.mod_mod] at e
  exact e

/-- Every row of the run is its first row. -/
theorem chunk2 (i : Nat) : lit0t1_2 i = if i / 128 % 2 = 0 then lit0t0_256 i else lit0t0_257 i := by
  unfold lit0t1_2
  have e : i / 128 % 2 = i / 128 % 128 % 2 := by omega
  rw [e]
  have h : i / 128 % 128 < 128 := Nat.mod_lt _ (by decide)
  generalize i / 128 % 128 = j at h
  interval_cases j
  all_goals rfl

theorem row384 (i : Nat) : lit0t0_384 i = if i % 128 < 64 then 0x0000#16 else 0x0000#16 := by
  have h : ∀ n : Fin 128, lit0t0_384 n = if (n : Nat) % 128 < 64 then 0x0000#16 else 0x0000#16 := by decide +kernel
  have e := h ⟨i % 128, Nat.mod_lt _ (by decide)⟩
  unfold lit0t0_384 at e ⊢
  simp only [Nat.mod_mod] at e
  exact e

theorem row385 (i : Nat) : lit0t0_385 i = if i % 128 < 64 then 0x0000#16 else 0x3C80#16 := by
  have h : ∀ n : Fin 128, lit0t0_385 n = if (n : Nat) % 128 < 64 then 0x0000#16 else 0x3C80#16 := by decide +kernel
  have e := h ⟨i % 128, Nat.mod_lt _ (by decide)⟩
  unfold lit0t0_385 at e ⊢
  simp only [Nat.mod_mod] at e
  exact e

/-- Every row of the run is its first row. -/
theorem chunk3 (i : Nat) : lit0t1_3 i = if i / 128 % 2 = 0 then lit0t0_384 i else lit0t0_385 i := by
  unfold lit0t1_3
  have e : i / 128 % 2 = i / 128 % 128 % 2 := by omega
  rw [e]
  have h : i / 128 % 128 < 128 := Nat.mod_lt _ (by decide)
  generalize i / 128 % 128 = j at h
  interval_cases j
  all_goals rfl

/-- The matrix has the word of a 64th where row and column lie in the same 64, and a zero word elsewhere. -/
theorem lit0_at (a b : Nat) (ha : a < 256) (hb : b < 256) (h : 256 * a + b < 65536) :
    lit0 ⟨256 * a + b, h⟩ = if a / 64 = b / 64 then 0x3C80#16 else 0x0000#16 := by
  show lit0t (256 * a + b) = _
  unfold lit0t
  have e : (256 * a + b) / 16384 = a / 64 := by omega
  rcases (by omega : a / 64 = 0 ∨ a / 64 = 1 ∨ a / 64 = 2 ∨ a / 64 = 3) with d | d | d | d
  all_goals rw [e, d]
  · show lit0t1_0 _ = _
    rw [chunk0, row0, row1]
    split_ifs <;> first | rfl | (exfalso; omega)
  · show lit0t1_1 _ = _
    rw [chunk1, row128, row129]
    split_ifs <;> first | rfl | (exfalso; omega)
  · show lit0t1_2 _ = _
    rw [chunk2, row256, row257]
    split_ifs <;> first | rfl | (exfalso; omega)
  · show lit0t1_3 _ = _
    rw [chunk3, row384, row385]
    split_ifs <;> first | rfl | (exfalso; omega)

end Cert.InprojIdeal.Lit

end
-- ==== Proof.InprojBlocks.lean ====
/- What the windows of the input projection's kernel hold at a point. -/
module

public import proofs.«01_k».proof.Proof.Gen.InprojIdeal.Frame
public import proofs.«01_k».proof.Proof.InprojTile
public import proofs.«01_k».proof.Proof.InprojArrays
public import proofs.«01_k».proof.Proof.InprojHost
public import proofs.«01_k».proof.Proof.InprojLit
public import Idealize.ShloMosaic.Lib.Pipeline.ValueKit
public import Idealize.ShloMosaic.Lib.Pointwise

@[expose] public section

set_option maxRecDepth 16384

noncomputable section

namespace Cert.InprojIdeal.Final

open Idealize.ShloMosaic Idealize.ShloMosaic.TcCoe Idealize.SL.Sem
open Cert.InprojIdeal Cert.InprojIdeal.Gen
open Cert.Inproj (Row Weights eps rope)

variable (m : (ℓ : Loc nD τ sig) → Buf (Elt Ideal) ℓ)

/-- Row `r` of the array as launched. -/
abbrev row (c : Dev nD) (r : Fin 16384) : Row := Cert.Inproj.rowAt (m ((c : Thread nD τ).loc main_arg0)) r

/-- The weights as launched. -/
abbrev wts (c : Dev nD) : Weights :=
  Cert.Inproj.weightsOf (m ((c : Thread nD τ).loc main_arg1)) (m ((c : Thread nD τ).loc main_arg2)) (m ((c : Thread nD τ).loc main_arg3)) (m ((c : Thread nD τ).loc main_arg4))

/-- The lines before the kernel are one stretch. -/
theorem one_stretch : List.flatten [(hostOps0 : List (HloOp τ sig (Elt Ideal)))] = hostOps0 := List.append_nil _

/-- Where each window's block lies, at every grid point. -/
theorem idx : ∀ t : Fin cfg0.N,
    win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0]
    ∧ win0_8.index t = ![t.val, 0] :=
  (by decide +kernel : ∀ t : Fin grid0.N, _)

/-- The row of the whole arrays that row `r` of a point's blocks is. -/
def gr (t : Fin cfg0.N) (r : Fin 512) : Fin 16384 := ⟨512 * t.val + r, by have : t.val < 32 := lt_of_lt_of_eq t.isLt N_0; omega⟩

theorem x_at (c : Dev nD) (t : Fin cfg0.N) (r : Fin 512) (k : Fin 1024) : iblk m c 0 t (ix2 r k) = (row m c (gr t r)).x k := by
  unfold row Cert.Inproj.rowAt gr
  blk_point [iblk, V, idx t]

theorem nw_at (c : Dev nD) (t : Fin cfg0.N) (k : Fin 1024) : iblk m c 1 t (ix2 0 k) = (wts m c).nw k := by
  unfold wts Cert.Inproj.weightsOf
  blk_simp [iblk]
  unfold V V0
  rw [one_stretch]
  entry_read
  pointwise
  blk_point [idx t]

theorem w_at (c : Dev nD) (t : Fin cfg0.N) (k : Fin 1024) (q : Fin 4864) : iblk m c 2 t (ix2 k q) = (wts m c).w k q := by
  unfold wts Cert.Inproj.weightsOf
  show _ = if h : (q : ℕ) < 4864 then _ else _
  rw [dif_pos q.isLt]
  blk_simp [iblk]
  entry_read
  pointwise
  blk_point [idx t]

/-- Through a whole block at the origin the array itself is read. -/
theorem emb3 (t : Fin cfg0.N) (q : Fin 1536) : (win0_3.blk t).view.emb (ix2 0 q) = ix2 0 q := by
  blk_ext [idx t]

theorem emb4 (t : Fin cfg0.N) (r : Fin 512) (q : Fin 128) : (win0_4.blk t).view.emb (ix2 r q) = ix2 (gr t r) q := by
  unfold gr
  blk_ext [idx t]

theorem emb5 (t : Fin cfg0.N) (r : Fin 512) (q : Fin 128) : (win0_5.blk t).view.emb (ix2 r q) = ix2 (gr t r) q := by
  unfold gr
  blk_ext [idx t]

theorem emb6 (t : Fin cfg0.N) (r : Fin 512) (q : Fin 128) : (win0_6.blk t).view.emb (ix2 r q) = ix2 (gr t r) q := by
  unfold gr
  blk_ext [idx t]

theorem emb7 (t : Fin cfg0.N) (r : Fin 256) (q : Fin 256) : (win0_7.blk t).view.emb (ix2 r q) = ix2 r q := by
  blk_ext [idx t]

theorem hw_at (c : Dev nD) (t : Fin cfg0.N) (q : Fin 1536) : iblk m c 3 t (ix2 0 q) = (wts m c).hw q := by
  unfold wts Cert.Inproj.weightsOf
  blk_simp [iblk]
  rw [emb3 t q]
  unfold V V0
  rw [one_stretch]
  entry_read
  pointwise
  by_cases h : (q : ℕ) < 768
  · exact (dif_pos h).trans (if_pos h).symm
  · refine (dif_neg h).trans (Eq.trans ?_ (if_neg h).symm)
    have e : ((q : ℕ) - 768) % 64 = (q : ℕ) % 64 := by omega
    simp only [e]

theorem cos_at (c : Dev nD) (t : Fin cfg0.N) (r : Fin 512) (q : Fin 128) :
    iblk m c 4 t (ix2 r q) = if h : (q : ℕ) % 64 < 8 then (row m c (gr t r)).cs ⟨(q : ℕ) % 64, h⟩
      else if h : (q : ℕ) % 64 < 16 then (row m c (gr t r)).cs ⟨(q : ℕ) % 64 - 8, by omega⟩ else 1 := by
  blk_simp [iblk]
  rw [emb4 t r q]
  exact Host.v28_at m c (gr t r) q

theorem sa_at (c : Dev nD) (t : Fin cfg0.N) (r : Fin 512) (q : Fin 128) :
    iblk m c 5 t (ix2 r q) = if h : (q : ℕ) % 64 < 8 then -(row m c (gr t r)).sn ⟨(q : ℕ) % 64, h⟩ else 0 := by
  blk_simp [iblk]
  rw [emb5 t r q]
  exact Host.v31_at m c (gr t r) q

theorem sb_at (c : Dev nD) (t : Fin cfg0.N) (r : Fin 512) (q : Fin 128) :
    iblk m c 6 t (ix2 r q) = if (q : ℕ) % 64 < 8 then 0
      else if h : (q : ℕ) % 64 < 16 then (row m c (gr t r)).sn ⟨(q : ℕ) % 64 - 8, by omega⟩ else 0 := by
  blk_simp [iblk]
  rw [emb6 t r q]
  exact Host.v34_at m c (gr t r) q

theorem s_at (c : Dev nD) (t : Fin cfg0.N) (j q : Fin 256) :
    iblk m c 7 t (ix2 j q) = if (j : ℕ) / 64 = (q : ℕ) / 64 then Ideal.ofBits .bf16 0x3C80#16 else 0 := by
  blk_simp [iblk]
  rw [emb7 t j q]
  unfold V V0
  rw [one_stretch]
  entry_read
  have hlt : 256 * (j : ℕ) + (q : ℕ) < 65536 := by omega
  have e : S256x256.rowMajor (ix2 j q) = ⟨256 * (j : ℕ) + (q : ℕ), hlt⟩ := Fin.ext (by rw [Shape.rowMajor_val_two]; show (j : ℕ) * 256 + (q : ℕ) = 256 * (j : ℕ) + (q : ℕ); omega)
  rw [e, Lit.lit0_at _ _ j.isLt q.isLt hlt]
  split
  · rfl
  · show Ideal.ofBits .bf16 0x0000#16 = 0
    simp [Ideal.ofBits, Ideal.ieee]

end Cert.InprojIdeal.Final

end
-- ==== Proof.InprojFinal.lean ====
/- The input projection's kernel leaves each row's projection in its array. -/
module

public import proofs.«01_k».proof.Proof.Gen.InprojIdeal.Frame
public import proofs.«01_k».proof.Proof.InprojPoint
public import proofs.«01_k».proof.Proof.InprojBlocks
public import Idealize.ShloMosaic.Lib.Pipeline.ValueKit
public import Idealize.ShloMosaic.Lib.Pointwise

@[expose] public section

set_option maxRecDepth 16384

noncomputable section

namespace Cert.InprojIdeal.Final

open Idealize.ShloMosaic Idealize.ShloMosaic.TcCoe Idealize.SL.Sem
open Cert.InprojIdeal Cert.InprojIdeal.Gen
open Cert.Inproj (Row Weights eps rope)

variable (m : (ℓ : Loc nD τ sig) → Buf (Elt Ideal) ℓ)

/-- At every point the blocks hold the launched rows and weights. -/
theorem blocks (c : Dev nD) (hz : ∀ r k, ∃ z : ℝ, (row m c r).z (wts m c) k = z) (t : Fin cfg0.N) (r : Fin 512) :
    Tile.Blocks (row m c (gr t r)) (wts m c) r (iblk m c 0 t) (iblk m c 1 t) (iblk m c 2 t) (iblk m c 3 t) (iblk m c 4 t) (iblk m c 5 t) (iblk m c 6 t) (iblk m c 7 t) where
  x := x_at m c t r
  nw := nw_at m c t
  w := w_at m c t
  hw := hw_at m c t
  cos := cos_at m c t r
  sa := sa_at m c t r
  sb := sb_at m c t r
  s := s_at m c t
  real := hz (gr t r)

/-- The output array, at the end: every row's projection. -/
theorem final (c : Dev nD) (hz : ∀ r k, ∃ z : ℝ, (row m c r).z (wts m c) k = z) :
    (dats m 0 c).arrAt 8 cfg0.N = (fun y : S16384x5120.Idx => (row m c (y 0)).out (wts m c) (y 1)) := by
  refine (dats m 0 c).arrAt_eq_of_covers 8 _ (by decide +kernel) fun t _ y => ?_
  blk_simp
  rw [after0_8]
  unfold outsAt0
  refine (Tile.point c t (fun r => row m c (gr t r)) (wts m c) (blocks m c hz t) y).trans ?_
  have e := (idx t).2.2.2.2.2.2.2.2
  exact congrArg₂ (fun a b => (row m c a).out (wts m c) b) (Fin.ext (by unfold gr; blk_simp [e]; exact congrArg (· + _) (Nat.mul_comm _ _))) (by blk_simp [e])

end Cert.InprojIdeal.Final

end
-- ==== Proof.InprojStack.lean ====
/- The last rows of the key and value columns of the projected array, one of the two beside the other. -/
module

public import proofs.«01_k».proof.Proof.InprojSpec
public import Idealize.ShloMosaic.Lib.Pipeline.Value
public import Idealize.ShloMosaic.Lib.ValueIdx

@[expose] public section

noncomputable section

namespace Cert.Inproj

open Idealize.ShloMosaic

/-- Two arrays stacked along a new third axis, read at a position: the first at 0, the second at 1. -/
theorem stack_at {n : ℕ} (k v : (⟨4, ![2, n, 4, 64]⟩ : Shape).Idx → EReal)
    (hb : (⟨4, ![2, n, 4, 64]⟩ : Shape).BroadcastsInDim ⟨5, ![2, n, 1, 4, 64]⟩ ![0, 1, 3, 4])
    (hc : Shape.Concatenates [⟨5, ![2, n, 1, 4, 64]⟩, ⟨5, ![2, n, 1, 4, 64]⟩] ⟨5, ![2, n, 2, 4, 64]⟩ 2)
    (b : Fin 2) (p : Fin n) (s : Fin 2) (h : Fin 4) (d : Fin 64) :
    concatenate ⟨5, ![2, n, 2, 4, 64]⟩ 2 [⟨⟨5, ![2, n, 1, 4, 64]⟩, broadcastInDim _ ![0, 1, 3, 4] hb k⟩, ⟨⟨5, ![2, n, 1, 4, 64]⟩, broadcastInDim _ ![0, 1, 3, 4] hb v⟩] hc (ix5 b p s h d)
      = if s.val = 0 then k (ix4 b p h d) else v (ix4 b p h d) := by
  have bc : ∀ y : (⟨4, ![2, n, 4, 64]⟩ : Shape).Idx → EReal,
      broadcastInDim ⟨5, ![2, n, 1, 4, 64]⟩ ![0, 1, 3, 4] hb y (ix5 b p 0 h d) = y (ix4 b p h d) := fun y =>
    broadcastInDim_apply _ hb y _ _ fun a => match a with
      | ⟨0, _⟩ => (if_neg (by decide : ¬ (2 : ℕ) = 1)).symm
      | ⟨1, _⟩ => by show p.val = if n = 1 then 0 else p.val; split <;> omega
      | ⟨2, _⟩ => (if_neg (by decide : ¬ (4 : ℕ) = 1)).symm
      | ⟨3, _⟩ => (if_neg (by decide : ¬ (64 : ℕ) = 1)).symm
  by_cases hs : s.val = 0
  · rw [if_pos hs, ← bc k]
    refine concatenate_pair_apply_left _ _ _ hc _ rfl _ fun a => match a with
      | ⟨0, _⟩ => rfl
      | ⟨1, _⟩ => rfl
      | ⟨2, _⟩ => by show 0 = s.val; omega
      | ⟨3, _⟩ => rfl
      | ⟨4, _⟩ => rfl
  · rw [if_neg hs, ← bc v]
    refine concatenate_pair_apply_right _ _ _ hc _ rfl rfl _ (fun a => match a with
      | ⟨0, _⟩ => fun _ => rfl
      | ⟨1, _⟩ => fun _ => rfl
      | ⟨2, _⟩ => fun e => absurd rfl e
      | ⟨3, _⟩ => fun _ => rfl
      | ⟨4, _⟩ => fun _ => rfl) ?_
    show 0 + 1 = s.val
    omega

/-- The last `n` rows of each sequence, 256 columns from `q` as four heads, read at a position. -/
theorem rows_at {n o q : ℕ} (hn : o + n = 8192) (hq : q + 256 ≤ 5120) (z : (⟨2, ![16384, 5120]⟩ : Shape).Idx → EReal)
    (h1 : (⟨2, ![16384, 5120]⟩ : Shape).ShapeCasts ⟨3, ![2, 8192, 5120]⟩)
    (h2 : (⟨3, ![2, 8192, 5120]⟩ : Shape).Slices ![0, o, 0] ⟨3, ![2, n, 5120]⟩)
    (h3 : (⟨3, ![2, n, 5120]⟩ : Shape).Slices ![0, 0, q] ⟨3, ![2, n, 256]⟩)
    (h4 : (⟨3, ![2, n, 256]⟩ : Shape).ShapeCasts ⟨4, ![2, n, 4, 64]⟩)
    (b : Fin 2) (p : Fin n) (h : Fin 4) (d : Fin 64) :
    shapeCast ⟨4, ![2, n, 4, 64]⟩ (extractStridedSlice ⟨3, ![2, n, 256]⟩ ![0, 0, q]
        (extractStridedSlice ⟨3, ![2, n, 5120]⟩ ![0, o, 0] (shapeCast ⟨3, ![2, 8192, 5120]⟩ z h1) h2) h3) h4 (ix4 b p h d)
      = z (ix2 ⟨8192 * b.val + (o + p.val), by omega⟩ ⟨q + (64 * h.val + d.val), by omega⟩) := by
  rw [shapeCast_apply _ h4 (ix4 b p h d) (ix3 b p ⟨64 * h.val + d.val, by omega⟩) (by
    rewrite [Shape.rowMajor_val_three, Shape.rowMajor_val_four]
    show (b.val * n + p.val) * 256 + (64 * h.val + d.val) = ((b.val * n + p.val) * 4 + h.val) * 64 + d.val
    omega)]
  rw [extractStridedSlice_apply _ _ h3 _ (ix3 b p ⟨q + (64 * h.val + d.val), by omega⟩) (fun a => match a with
    | ⟨0, _⟩ => (Nat.zero_add _).symm
    | ⟨1, _⟩ => (Nat.zero_add _).symm
    | ⟨2, _⟩ => rfl)]
  rw [extractStridedSlice_apply _ _ h2 _ (ix3 b ⟨o + p.val, by omega⟩ ⟨q + (64 * h.val + d.val), by omega⟩) (fun a => match a with
    | ⟨0, _⟩ => (Nat.zero_add _).symm
    | ⟨1, _⟩ => rfl
    | ⟨2, _⟩ => (Nat.zero_add _).symm)]
  exact shapeCast_apply _ h1 _ _ (by
    rewrite [Shape.rowMajor_val_two, Shape.rowMajor_val_three]
    show (8192 * b.val + (o + p.val)) * 5120 + (q + (64 * h.val + d.val)) = (b.val * 8192 + (o + p.val)) * 5120 + (q + (64 * h.val + d.val))
    omega)

/-- The last `n` positions of four of the twelve heads, read at a position. -/
theorem heads_at {n o e : ℕ} (hn : o + n = 8192) (he : e + 4 ≤ 12) (y : (⟨4, ![2, 8192, 12, 64]⟩ : Shape).Idx → EReal)
    (h1 : (⟨4, ![2, 8192, 12, 64]⟩ : Shape).Slices ![0, o, e, 0] ⟨4, ![2, n, 4, 64]⟩)
    (b : Fin 2) (p : Fin n) (h : Fin 4) (d : Fin 64) :
    extractStridedSlice ⟨4, ![2, n, 4, 64]⟩ ![0, o, e, 0] y h1 (ix4 b p h d)
      = y (ix4 b ⟨o + p.val, by omega⟩ ⟨e + h.val, by omega⟩ d) :=
  extractStridedSlice_apply _ _ h1 _ _ fun a => match a with
    | ⟨0, _⟩ => (Nat.zero_add _).symm
    | ⟨1, _⟩ => rfl
    | ⟨2, _⟩ => rfl
    | ⟨3, _⟩ => (Nat.zero_add _).symm

/-- The rows of a window: of the `n` last positions of each sequence, the key (0) and value (1) rows of the four heads from
    head `e` on, in an array whose rows are `out` at row and column. -/
def window (n o e : ℕ) (hn : o + n = 8192) (out : Fin 16384 → ℕ → EReal) : (⟨5, ![2, n, 2, 4, 64]⟩ : Shape).Idx → EReal := fun j =>
  out ⟨8192 * (j 0).val + (o + (j 1).val), by
      have h0 : (j 0).val < 2 := (j 0).isLt
      have h1 : (j 1).val < n := (j 1).isLt
      omega⟩
    (768 + 768 * (j 2).val + 64 * e + (64 * (j 3).val + (j 4).val))

end Cert.Inproj

end
-- ==== Proof.InprojTail.lean ====
/- The windows that the lines after the input projection's kernel cut out of its array. -/
module

public import proofs.«01_k».proof.Proof.Gen.InprojIdeal.Frame
public import proofs.«01_k».proof.Proof.InprojStack
public import Idealize.ShloMosaic.Lib.Pipeline.ValueKit
public import Idealize.ShloMosaic.Lib.Claim

@[expose] public section

set_option maxRecDepth 16384

noncomputable section

namespace Cert.InprojIdeal.Tail

open Idealize.ShloMosaic Idealize.ShloMosaic.TcCoe Idealize.SL.Sem
open Cert.InprojIdeal Cert.InprojIdeal.Gen
open Cert.Inproj (window stack_at rows_at)

/-- The first window, cut out of an array of rows. -/
def win1 (z : FVec Ideal S16384x5120 .f32) : FVec Ideal S2x128x2x4x64 .f32 :=
  concatenate S2x128x2x4x64 2
    [⟨S2x128x1x4x64, broadcastInDim S2x128x1x4x64 ![0, 1, 3, 4] bcast_S2x128x4x64_S2x128x1x4x64_0_1_3_4 (shapeCast S2x128x4x64 (extractStridedSlice S2x128x256 ![0, 0, 768] (extractStridedSlice S2x128x5120 ![0, 8064, 0] (shapeCast S2x8192x5120 z shapeCasts_S16384x5120_S2x8192x5120) slices_S2x8192x5120_S2x128x5120_0_8064_0) slices_S2x128x5120_S2x128x256_0_0_768) shapeCasts_S2x128x256_S2x128x4x64)⟩,
     ⟨S2x128x1x4x64, broadcastInDim S2x128x1x4x64 ![0, 1, 3, 4] bcast_S2x128x4x64_S2x128x1x4x64_0_1_3_4 (shapeCast S2x128x4x64 (extractStridedSlice S2x128x256 ![0, 0, 1536] (extractStridedSlice S2x128x5120 ![0, 8064, 0] (shapeCast S2x8192x5120 z shapeCasts_S16384x5120_S2x8192x5120) slices_S2x8192x5120_S2x128x5120_0_8064_0) slices_S2x128x5120_S2x128x256_0_0_1536) shapeCasts_S2x128x256_S2x128x4x64)⟩]
    concatenates_S2x128x1x4x64_S2x128x1x4x64_S2x128x2x4x64_d2

/-- The second. -/
def win2 (z : FVec Ideal S16384x5120 .f32) : FVec Ideal S2x512x2x4x64 .f32 :=
  concatenate S2x512x2x4x64 2
    [⟨S2x512x1x4x64, broadcastInDim S2x512x1x4x64 ![0, 1, 3, 4] bcast_S2x512x4x64_S2x512x1x4x64_0_1_3_4 (shapeCast S2x512x4x64 (extractStridedSlice S2x512x256 ![0, 0, 1024] (extractStridedSlice S2x512x5120 ![0, 7680, 0] (shapeCast S2x8192x5120 z shapeCasts_S16384x5120_S2x8192x5120) slices_S2x8192x5120_S2x512x5120_0_7680_0) slices_S2x512x5120_S2x512x256_0_0_1024) shapeCasts_S2x512x256_S2x512x4x64)⟩,
     ⟨S2x512x1x4x64, broadcastInDim S2x512x1x4x64 ![0, 1, 3, 4] bcast_S2x512x4x64_S2x512x1x4x64_0_1_3_4 (shapeCast S2x512x4x64 (extractStridedSlice S2x512x256 ![0, 0, 1792] (extractStridedSlice S2x512x5120 ![0, 7680, 0] (shapeCast S2x8192x5120 z shapeCasts_S16384x5120_S2x8192x5120) slices_S2x8192x5120_S2x512x5120_0_7680_0) slices_S2x512x5120_S2x512x256_0_0_1792) shapeCasts_S2x512x256_S2x512x4x64)⟩]
    concatenates_S2x512x1x4x64_S2x512x1x4x64_S2x512x2x4x64_d2

/-- The third. -/
def win3 (z : FVec Ideal S16384x5120 .f32) : FVec Ideal S2x2048x2x4x64 .f32 :=
  concatenate S2x2048x2x4x64 2
    [⟨S2x2048x1x4x64, broadcastInDim S2x2048x1x4x64 ![0, 1, 3, 4] bcast_S2x2048x4x64_S2x2048x1x4x64_0_1_3_4 (shapeCast S2x2048x4x64 (extractStridedSlice S2x2048x256 ![0, 0, 1280] (extractStridedSlice S2x2048x5120 ![0, 6144, 0] (shapeCast S2x8192x5120 z shapeCasts_S16384x5120_S2x8192x5120) slices_S2x8192x5120_S2x2048x5120_0_6144_0) slices_S2x2048x5120_S2x2048x256_0_0_1280) shapeCasts_S2x2048x256_S2x2048x4x64)⟩,
     ⟨S2x2048x1x4x64, broadcastInDim S2x2048x1x4x64 ![0, 1, 3, 4] bcast_S2x2048x4x64_S2x2048x1x4x64_0_1_3_4 (shapeCast S2x2048x4x64 (extractStridedSlice S2x2048x256 ![0, 0, 2048] (extractStridedSlice S2x2048x5120 ![0, 6144, 0] (shapeCast S2x8192x5120 z shapeCasts_S16384x5120_S2x8192x5120) slices_S2x8192x5120_S2x2048x5120_0_6144_0) slices_S2x2048x5120_S2x2048x256_0_0_2048) shapeCasts_S2x2048x256_S2x2048x4x64)⟩]
    concatenates_S2x2048x1x4x64_S2x2048x1x4x64_S2x2048x2x4x64_d2

/-- Of an array whose rows are `out`, each is the window of those rows. -/
theorem win1_at (out : Fin 16384 → ℕ → EReal) : win1 (fun y => out (y 0) (y 1).val) = window 128 8064 0 rfl out := by
  funext j
  obtain ⟨b, p, s, h, d, rfl⟩ : ∃ b p s h d, j = ix5 b p s h d := ⟨_, _, _, _, _, eq_ix5 j⟩
  refine (stack_at _ _ _ _ b p s h d).trans ?_
  rw [rows_at rfl (by decide), rows_at rfl (by decide)]
  by_cases hs : s.val = 0
  · rw [if_pos hs]; exact congrArg (out _) (by show 768 + (64 * h.val + d.val) = 768 + 768 * s.val + 64 * 0 + (64 * h.val + d.val); omega)
  · rw [if_neg hs]; exact congrArg (out _) (by show 1536 + (64 * h.val + d.val) = 768 + 768 * s.val + 64 * 0 + (64 * h.val + d.val); omega)

theorem win2_at (out : Fin 16384 → ℕ → EReal) : win2 (fun y => out (y 0) (y 1).val) = window 512 7680 4 rfl out := by
  funext j
  obtain ⟨b, p, s, h, d, rfl⟩ : ∃ b p s h d, j = ix5 b p s h d := ⟨_, _, _, _, _, eq_ix5 j⟩
  refine (stack_at _ _ _ _ b p s h d).trans ?_
  rw [rows_at rfl (by decide), rows_at rfl (by decide)]
  by_cases hs : s.val = 0
  · rw [if_pos hs]; exact congrArg (out _) (by show 1024 + (64 * h.val + d.val) = 768 + 768 * s.val + 64 * 4 + (64 * h.val + d.val); omega)
  · rw [if_neg hs]; exact congrArg (out _) (by show 1792 + (64 * h.val + d.val) = 768 + 768 * s.val + 64 * 4 + (64 * h.val + d.val); omega)

theorem win3_at (out : Fin 16384 → ℕ → EReal) : win3 (fun y => out (y 0) (y 1).val) = window 2048 6144 8 rfl out := by
  funext j
  obtain ⟨b, p, s, h, d, rfl⟩ : ∃ b p s h d, j = ix5 b p s h d := ⟨_, _, _, _, _, eq_ix5 j⟩
  refine (stack_at _ _ _ _ b p s h d).trans ?_
  rw [rows_at rfl (by decide), rows_at rfl (by decide)]
  by_cases hs : s.val = 0
  · rw [if_pos hs]; exact congrArg (out _) (by show 1280 + (64 * h.val + d.val) = 768 + 768 * s.val + 64 * 8 + (64 * h.val + d.val); omega)
  · rw [if_neg hs]; exact congrArg (out _) (by show 2048 + (64 * h.val + d.val) = 768 + 768 * s.val + 64 * 8 + (64 * h.val + d.val); omega)

variable (m : (ℓ : Loc nD τ sig) → Buf (Elt Ideal) ℓ) (ρ : Dev nD → PrngReg)

/-- What the lines after the kernel leave of buffers that hold the kernel's array. -/
theorem tail1 (σ : Valuation τ sig (Elt Ideal)) : StableHlo.after hostOps1 σ (Proc.devRef .tc main_v53) = win1 (σ (Proc.devRef .tc main_v44)) := by
  after_results_simp <;> rfl

theorem tail2 (σ : Valuation τ sig (Elt Ideal)) : StableHlo.after hostOps1 σ (Proc.devRef .tc main_v61) = win2 (σ (Proc.devRef .tc main_v44)) := by
  after_results_simp <;> rfl

theorem tail3 (σ : Valuation τ sig (Elt Ideal)) : StableHlo.after hostOps1 σ (Proc.devRef .tc main_v69) = win3 (σ (Proc.devRef .tc main_v44)) := by
  after_results_simp <;> rfl

/-- The buffers as the kernel leaves them. -/
abbrev left (c : Dev nD) : Valuation τ sig (Elt Ideal) :=
  Pipeline.withArrays spec0 c (V0 m c) fun w => (dats m 0 c).arrAt w cfg0.N

/-- There the kernel's array is what its blocks make of it. -/
theorem left_arr (c : Dev nD) : left m c (Proc.devRef .tc main_v44) = (dats m 0 c).arrAt 8 cfg0.N :=
  Pipeline.withArrays_arr spec0 launch0.win.arr_inj c (V0 m c) (fun w => (dats m 0 c).arrAt w cfg0.N) 8

/-- The run: the kernel's array, the three windows of it, and the arguments as they were. -/
theorem run : θ_run defs (onTc (τ := τ) (main (F := Ideal))) ⟨m, fun _ => 0, ρ⟩ fun r => ∀ c : Dev nD,
      r.2.mem ((c.tc : Thread nD τ).loc main_v44) = (dats m 0 c).arrAt 8 cfg0.N
      ∧ r.2.mem ((c.tc : Thread nD τ).loc main_v53) = win1 ((dats m 0 c).arrAt 8 cfg0.N)
      ∧ r.2.mem ((c.tc : Thread nD τ).loc main_v61) = win2 ((dats m 0 c).arrAt 8 cfg0.N)
      ∧ r.2.mem ((c.tc : Thread nD τ).loc main_v69) = win3 ((dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 8,
      ((h.1 c).2 main_v53 (Pipeline.mem_restRefs_of main_v53 (by decide) (by decide))).trans ((tail1 (left m c)).trans (congrArg win1 (left_arr m c))),
      ((h.1 c).2 main_v61 (Pipeline.mem_restRefs_of main_v61 (by decide) (by decide))).trans ((tail2 (left m c)).trans (congrArg win2 (left_arr m c))),
      ((h.1 c).2 main_v69 (Pipeline.mem_restRefs_of main_v69 (by decide) (by decide))).trans ((tail3 (left m c)).trans (congrArg win3 (left_arr m c))),
      h.2 c⟩)
    (θ_run_and (run_main m ρ) (unchanged m ρ))

end Cert.InprojIdeal.Tail

end
-- ==== Proof.InprojRef.lean ====
/- The reference of the input projection, read at an index: the normalised rows and their projection. -/
module

public import proofs.«01_k».proof.Proof.Gen.InprojRefIdeal.Read
public import proofs.«01_k».proof.Proof.InprojArrays

@[expose] public section

set_option maxRecDepth 16384

noncomputable section

namespace Cert.InprojRefIdeal.Rows

open Idealize.ShloMosaic
open Cert.InprojRefIdeal Cert.InprojRefIdeal.Gen Cert.InprojRefIdeal.Read
open Cert.Inproj (Row Weights rowAt weightsOf eps rope cosA sinA ang)

/-- Position `p` of sequence `b` is this row. -/
def at2 (b : Fin 2) (p : Fin 8192) : Fin 16384 := ⟨8192 * b.val + p.val, by omega⟩

theorem zero_lit : Ideal.ofBits .f32 0x00000000#32 = 0 := by simp [Ideal.ofBits, Ideal.ieee]

variable (x0 : FVec Ideal S16384x1024 .f32) (x1 : FVec Ideal S1024 .f32) (x2 : FVec Ideal S1024x4864 .f32) (x3 x4 : FVec Ideal S64 .f32)

/-- The row and the weights as the reference's arguments hold them. -/
abbrev R (b : Fin 2) (p : Fin 8192) : Row := rowAt x0 (at2 b p)

abbrev W : Weights := weightsOf x1 x2 x3 x4

theorem v0_at (b : Fin 2) (p : Fin 8192) (k : Fin 1024) : val_main_v0 (F := Ideal) x0 (ix3 b p k) = (R x0 b p).x k := by
  unfold val_main_v0
  exact shapeCast_apply _ shapeCasts_S16384x1024_S2x8192x1024 (ix3 b p k) (ix2 (at2 b p) k) (by
    rewrite [Shape.rowMajor_val_three, Shape.rowMajor_val_two]
    show (8192 * b.val + p.val) * 1024 + k.val = (b.val * 8192 + p.val) * 1024 + k.val
    omega)

/-- The sum of a row's squares. -/
theorem v3_at (b : Fin 2) (p : Fin 8192) : val_main_v3 (F := Ideal) x0 (ix2 b p) = ∑ k : Fin 1024, (R x0 b p).x k * (R x0 b p).x k := by
  rw [val_main_v3_apply, show val_main_cst (F := Ideal) (Shape.Idx.first h_S_) = 0 from zero_lit, zero_add]
  refine Finset.sum_congr rfl fun k _ => ?_
  refine (congrArg (val_main_v2 (F := Ideal) x0) (eq_ix3 _)).trans ?_
  rw [val_main_v2_apply]
  exact congrArg₂ (· * ·) (v0_at x0 b p k) (v0_at x0 b p k)

/-- The reciprocal of the root of the mean square. -/
theorem v9_at (b : Fin 2) (p : Fin 8192) :
    val_main_v9 (F := Ideal) x0 (ix3 b p 0)
      = Ideal.rsqrt (Ideal.div (∑ k : Fin 1024, (R x0 b p).x k * (R x0 b p).x k) (Ideal.ofBits .f32 0x44800000#32) + eps) := by
  rw [val_main_v9_apply, val_main_v8_apply, val_main_v7_apply, val_main_v6_apply, val_main_v5_apply, val_main_v4_apply]
  exact congrArg (fun w => Ideal.rsqrt (Ideal.div w (Ideal.ofBits .f32 0x44800000#32) + Ideal.ofBits .f32 0x358637BD#32))
    ((congrArg (val_main_v3 (F := Ideal) x0) (eq_ix2 _)).trans (v3_at x0 b p))

/-- The normalised row. -/
theorem v14_at (b : Fin 2) (p : Fin 8192) (k : Fin 1024) : val_main_v14 (F := Ideal) x0 x1 (ix3 b p k) = (R x0 b p).n (W x1 x2 x3 x4) k := by
  rw [val_main_v14_apply, val_main_v13_apply, val_main_v12_apply, val_main_v11_apply, val_main_v10_apply]
  exact congrArg₂ (· * ·) (congrArg₂ (· * ·) (v0_at x0 b p k)
    ((congrArg (val_main_v9 (F := Ideal) x0) (eq_ix3 _)).trans (v9_at x0 b p))) (congrArg x1 (eq_ix1 _))

theorem w_of (k : Fin 1024) (q : Fin 4864) : (W x1 x2 x3 x4).w k q = x2 (ix2 k q) := dif_pos q.isLt

/-- The projected row. -/
theorem v15_at (b : Fin 2) (p : Fin 8192) (q : Fin 4864) : val_main_v15 (F := Ideal) x0 x1 x2 (ix3 b p q) = (R x0 b p).z (W x1 x2 x3 x4) q := by
  rw [val_main_v15_apply]
  unfold Row.z
  refine Finset.sum_congr rfl fun k _ => ?_
  rw [w_of]
  exact congrArg₂ (· * ·) ((congrArg (val_main_v14 (F := Ideal) x0 x1) (eq_ix3 _)).trans (v14_at x0 x1 x2 x3 x4 b p k)) (congrArg x2 (eq_ix2 _))

/-- A normalised head's lane, by head and lane. -/
theorem y_of (Q : Row) (V : Weights) (s d : ℕ) (hd : d < 64) :
    Q.y V (64 * s + d) = Q.z V (64 * s + d) * Ideal.rsqrt (Q.ms V s + eps) * V.hw (64 * s + d) := by
  unfold Row.y
  rw [show (64 * s + d) / 64 = s by omega]

/-- The rotation, by head and lane. -/
theorem rope_of (y : ℕ → EReal) (cs sn : Fin 8 → EReal) (s : ℕ) (d : Fin 64) :
    rope y cs sn (64 * s + d.val)
      = if h : d.val < 8 then y (64 * s + d.val) * cs ⟨d.val, h⟩ - y (64 * s + (8 + d.val)) * sn ⟨d.val, h⟩
        else if h : d.val < 16 then y (64 * s + (8 + (d.val - 8))) * cs ⟨d.val - 8, by omega⟩ + y (64 * s + (d.val - 8)) * sn ⟨d.val - 8, by omega⟩
        else y (64 * s + (16 + (d.val - 16))) := by
  have e : (64 * s + d.val) % 64 = d.val := by omega
  unfold rope
  simp only [e]
  by_cases h1 : d.val < 8
  · rw [dif_pos h1, dif_pos h1, show 64 * s + d.val + 8 = 64 * s + (8 + d.val) by omega]
  · by_cases h2 : d.val < 16
    · rw [dif_neg h1, dif_neg h1, dif_pos h2, dif_pos h2, show 64 * s + (8 + (d.val - 8)) = 64 * s + d.val by omega, show 64 * s + (d.val - 8) = 64 * s + d.val - 8 by omega]
    · rw [dif_neg h1, dif_neg h1, dif_neg h2, dif_neg h2, show 64 * s + (16 + (d.val - 16)) = 64 * s + d.val by omega]

end Cert.InprojRefIdeal.Rows

end
-- ==== Proof.InprojRefQ.lean ====
/- The reference of the input projection: the rotated queries. -/
module

public import proofs.«01_k».proof.Proof.InprojRef

@[expose] public section

set_option maxRecDepth 16384

noncomputable section

namespace Cert.InprojRefIdeal.Rows

open Idealize.ShloMosaic
open Cert.InprojRefIdeal Cert.InprojRefIdeal.Gen Cert.InprojRefIdeal.Read
open Cert.Inproj (Row Weights rowAt weightsOf eps rope cosA sinA ang)

variable (x0 : FVec Ideal S16384x1024 .f32) (x1 : FVec Ideal S1024 .f32) (x2 : FVec Ideal S1024x4864 .f32) (x3 x4 : FVec Ideal S64 .f32)

/-! The queries. -/

theorem v36_at (d : Fin 8) : val_main_v36 (F := Ideal) (ix1 d)
    = Ideal.pow (Ideal.ofBits .f32 0x48F42400#32) (Ideal.div (-(FloatOps.sitofp .f32 (BitVec.ofNat 32 (d : ℕ)) : Ideal .f32)) (Ideal.ofBits .f32 0x41000000#32)) := by
  rw [val_main_v36_apply, val_main_v35_apply, val_main_v34_apply, val_main_v33_apply, val_main_v32_apply]
  rfl

theorem v42_at (p : Fin 8192) (d : Fin 8) : val_main_v42 (F := Ideal) (ix2 p d) = ang p d := by
  rw [val_main_v42_apply, val_main_v40_apply, val_main_v38_apply, val_main_v37_apply, val_main_v1_apply, val_main_v41_apply, val_main_v39_apply]
  exact congrArg (_ * ·) ((congrArg (val_main_v36 (F := Ideal)) (eq_ix1 _)).trans (v36_at d))

theorem cos0_at (p : Fin 8192) (d : Fin 8) : val_main_v43 (F := Ideal) (ix2 p d) = cosA p d := by
  rw [val_main_v43_apply]
  exact congrArg Ideal.cos (v42_at p d)

theorem sin0_at (p : Fin 8192) (d : Fin 8) : val_main_v45 (F := Ideal) (ix2 p d) = sinA p d := by
  rw [val_main_v45_apply]
  exact congrArg Ideal.sin (v42_at p d)

/-- The tables, spread over sequences and heads. -/
theorem v51_at (b : Fin 2) (p : Fin 8192) (h : Fin 12) (d : Fin 8) : val_main_v51 (F := Ideal) (ix4 b p h d) = cosA p d := by
  rw [val_main_v51_apply, val_main_v50_apply, val_main_v44_apply]
  exact (congrArg (val_main_v43 (F := Ideal)) (eq_ix2 _)).trans (cos0_at p d)

theorem v54_at (b : Fin 2) (p : Fin 8192) (h : Fin 12) (d : Fin 8) : val_main_v54 (F := Ideal) (ix4 b p h d) = sinA p d := by
  rw [val_main_v54_apply, val_main_v53_apply, val_main_v46_apply]
  exact (congrArg (val_main_v45 (F := Ideal)) (eq_ix2 _)).trans (sin0_at p d)

theorem v58_at (b : Fin 2) (p : Fin 8192) (h : Fin 12) (d : Fin 8) : val_main_v58 (F := Ideal) (ix4 b p h d) = cosA p d := by
  rw [val_main_v58_apply, val_main_v57_apply, val_main_v44_apply]
  exact (congrArg (val_main_v43 (F := Ideal)) (eq_ix2 _)).trans (cos0_at p d)

theorem v61_at (b : Fin 2) (p : Fin 8192) (h : Fin 12) (d : Fin 8) : val_main_v61 (F := Ideal) (ix4 b p h d) = sinA p d := by
  rw [val_main_v61_apply, val_main_v60_apply, val_main_v46_apply]
  exact (congrArg (val_main_v45 (F := Ideal)) (eq_ix2 _)).trans (sin0_at p d)

theorem cs0 (b : Fin 2) (p : Fin 8192) (d : Fin 8) : cosA p d = (R x0 b p).cs d :=
  congrArg (cosA · d) (by show p.val = (8192 * b.val + p.val) % 8192; omega)

theorem sn0 (b : Fin 2) (p : Fin 8192) (d : Fin 8) : sinA p d = (R x0 b p).sn d :=
  congrArg (sinA · d) (by show p.val = (8192 * b.val + p.val) % 8192; omega)

/-- A head's lane of the projected row. -/
theorem v17_at (b : Fin 2) (p : Fin 8192) (h : Fin 12) (d : Fin 64) :
    val_main_v17 (F := Ideal) x0 x1 x2 (ix4 b p h d) = (R x0 b p).z (W x1 x2 x3 x4) (64 * h.val + d.val) := by
  unfold val_main_v17
  rw [shapeCast_apply _ shapeCasts_S2x8192x768_S2x8192x12x64 (ix4 b p h d) (ix3 b p ⟨64 * h.val + d.val, by omega⟩) (by
    rewrite [Shape.rowMajor_val_three, Shape.rowMajor_val_four]
    show (b.val * 8192 + p.val) * 768 + (64 * h.val + d.val) = ((b.val * 8192 + p.val) * 12 + h.val) * 64 + d.val
    omega), val_main_v16_apply]
  exact (congrArg (val_main_v15 (F := Ideal) x0 x1 x2) (eq_ix3 _)).trans ((v15_at x0 x1 x2 x3 x4 b p ⟨64 * h.val + d.val, by omega⟩).trans
    (congrArg ((R x0 b p).z (W x1 x2 x3 x4)) (rfl)))

/-- The sum of a head's squares. -/
theorem v19_at (b : Fin 2) (p : Fin 8192) (h : Fin 12) : val_main_v19 (F := Ideal) x0 x1 x2 (ix3 b p h)
    = ∑ d : Fin 64, (R x0 b p).z (W x1 x2 x3 x4) (64 * h.val + d.val) * (R x0 b p).z (W x1 x2 x3 x4) (64 * h.val + d.val) := by
  rw [val_main_v19_apply, show val_main_cst_2 (F := Ideal) (Shape.Idx.first h_S_) = 0 from zero_lit, zero_add]
  refine Finset.sum_congr rfl fun d _ => ?_
  refine (congrArg (val_main_v18 (F := Ideal) x0 x1 x2) (eq_ix4 _)).trans ?_
  rw [val_main_v18_apply]
  exact congrArg₂ (· * ·) (v17_at x0 x1 x2 x3 x4 b p h d) (v17_at x0 x1 x2 x3 x4 b p h d)

/-- The reciprocal of the root of a head's mean square. -/
theorem v25_at (b : Fin 2) (p : Fin 8192) (h : Fin 12) : val_main_v25 (F := Ideal) x0 x1 x2 (ix4 b p h 0)
    = Ideal.rsqrt ((R x0 b p).ms (W x1 x2 x3 x4) h.val + eps) := by
  rw [val_main_v25_apply, val_main_v24_apply, val_main_v23_apply, val_main_v22_apply, val_main_v21_apply, val_main_v20_apply]
  exact congrArg (fun w => Ideal.rsqrt (Ideal.div w (Ideal.ofBits .f32 0x42800000#32) + Ideal.ofBits .f32 0x358637BD#32))
    ((congrArg (val_main_v19 (F := Ideal) x0 x1 x2) (eq_ix3 _)).trans (v19_at x0 x1 x2 x3 x4 b p h))

theorem hw0_of (h : Fin 12) (d : Fin 64) : (W x1 x2 x3 x4).hw (64 * h.val + d.val) = x3 (ix1 d) := by
  have e : (64 * h.val + d.val) % 64 = d.val := by omega
  show (if 64 * h.val + d.val < 768 then x3 (ix1 ⟨(64 * h.val + d.val) % 64, _⟩) else _) = _
  rw [if_pos (by omega)]
  exact congrArg (fun i => x3 (ix1 i)) (Fin.ext e)

/-- The normalised heads. -/
theorem v30_at (b : Fin 2) (p : Fin 8192) (h : Fin 12) (d : Fin 64) :
    val_main_v30 (F := Ideal) x0 x1 x2 x3 (ix4 b p h d) = (R x0 b p).y (W x1 x2 x3 x4) (64 * h.val + d.val) := by
  rw [val_main_v30_apply, val_main_v29_apply, val_main_v28_apply, val_main_v27_apply, val_main_v26_apply, y_of _ _ _ _ d.isLt, hw0_of]
  exact congrArg₂ (· * ·) (congrArg₂ (· * ·) (v17_at x0 x1 x2 x3 x4 b p h d)
    ((congrArg (val_main_v25 (F := Ideal) x0 x1 x2) (eq_ix4 _)).trans (v25_at x0 x1 x2 x3 x4 b p h))) (congrArg x3 (eq_ix1 _))

/-- The first two octets of lanes. -/
theorem v48_at (b : Fin 2) (p : Fin 8192) (h : Fin 12) (d : Fin 8) :
    val_main_v48 (F := Ideal) x0 x1 x2 x3 (ix4 b p h d) = (R x0 b p).y (W x1 x2 x3 x4) (64 * h.val + d.val) := by
  rw [val_main_v48_apply, val_main_v47_apply]
  exact (congrArg (val_main_v30 (F := Ideal) x0 x1 x2 x3) (eq_ix4 _)).trans (v30_at x0 x1 x2 x3 x4 b p h ⟨d.val, by omega⟩)

theorem v49_at (b : Fin 2) (p : Fin 8192) (h : Fin 12) (d : Fin 8) :
    val_main_v49 (F := Ideal) x0 x1 x2 x3 (ix4 b p h d) = (R x0 b p).y (W x1 x2 x3 x4) (64 * h.val + (8 + d.val)) := by
  rw [val_main_v49_apply, val_main_v47_apply]
  exact (congrArg (val_main_v30 (F := Ideal) x0 x1 x2 x3) (eq_ix4 _)).trans (v30_at x0 x1 x2 x3 x4 b p h ⟨8 + d.val, by omega⟩)

/-- The octets, rotated. -/
theorem v56_at (b : Fin 2) (p : Fin 8192) (h : Fin 12) (d : Fin 8) :
    val_main_v56 (F := Ideal) x0 x1 x2 x3 (ix4 b p h d)
      = (R x0 b p).y (W x1 x2 x3 x4) (64 * h.val + d.val) * (R x0 b p).cs d - (R x0 b p).y (W x1 x2 x3 x4) (64 * h.val + (8 + d.val)) * (R x0 b p).sn d := by
  rw [val_main_v56_apply, val_main_v52_apply, val_main_v55_apply, v48_at x0 x1 x2 x3 x4, v49_at x0 x1 x2 x3 x4, v51_at, v54_at, cs0 x0 b p d, sn0 x0 b p d]
  rfl

theorem v63_at (b : Fin 2) (p : Fin 8192) (h : Fin 12) (d : Fin 8) :
    val_main_v63 (F := Ideal) x0 x1 x2 x3 (ix4 b p h d)
      = (R x0 b p).y (W x1 x2 x3 x4) (64 * h.val + (8 + d.val)) * (R x0 b p).cs d + (R x0 b p).y (W x1 x2 x3 x4) (64 * h.val + d.val) * (R x0 b p).sn d := by
  rw [val_main_v63_apply, val_main_v59_apply, val_main_v62_apply, v48_at x0 x1 x2 x3 x4, v49_at x0 x1 x2 x3 x4, v58_at, v61_at, cs0 x0 b p d, sn0 x0 b p d]
  rfl

theorem v65_at (b : Fin 2) (p : Fin 8192) (h : Fin 12) (d : Fin 48) :
    val_main_v65 (F := Ideal) x0 x1 x2 x3 (ix4 b p h d) = (R x0 b p).y (W x1 x2 x3 x4) (64 * h.val + (16 + d.val)) := by
  rw [val_main_v65_apply]
  exact (congrArg (val_main_v30 (F := Ideal) x0 x1 x2 x3) (eq_ix4 _)).trans (v30_at x0 x1 x2 x3 x4 b p h ⟨16 + d.val, by omega⟩)

/-- The heads, rotated. -/
theorem v66_at (b : Fin 2) (p : Fin 8192) (h : Fin 12) (d : Fin 64) :
    val_main_v66 (F := Ideal) x0 x1 x2 x3 (ix4 b p h d) = rope ((R x0 b p).y (W x1 x2 x3 x4)) (R x0 b p).cs (R x0 b p).sn (64 * h.val + d.val) := by
  refine (rope_of _ _ _ h.val d).trans ?_ |>.symm
  pointwise [val_main_v66, val_main_v64]
  by_cases h1 : d.val < 8
  · have h2 : d.val < 16 := by omega
    simp only [dif_pos h1, dif_pos h2]
    exact (v56_at x0 x1 x2 x3 x4 b p h ⟨d.val, h1⟩).symm
  · by_cases h2 : d.val < 16
    · simp only [dif_neg h1, dif_pos h2]
      exact (v63_at x0 x1 x2 x3 x4 b p h ⟨d.val - 8, by omega⟩).symm
    · simp only [dif_neg h1, dif_neg h2]
      exact (v65_at x0 x1 x2 x3 x4 b p h ⟨d.val - 16, by omega⟩).symm

end Cert.InprojRefIdeal.Rows

end
-- ==== Proof.InprojRefK.lean ====
/- The reference of the input projection: the rotated keys. -/
module

public import proofs.«01_k».proof.Proof.InprojRef

@[expose] public section

set_option maxRecDepth 16384

noncomputable section

namespace Cert.InprojRefIdeal.Rows

open Idealize.ShloMosaic
open Cert.InprojRefIdeal Cert.InprojRefIdeal.Gen Cert.InprojRefIdeal.Read
open Cert.Inproj (Row Weights rowAt weightsOf eps rope cosA sinA ang)

variable (x0 : FVec Ideal S16384x1024 .f32) (x1 : FVec Ideal S1024 .f32) (x2 : FVec Ideal S1024x4864 .f32) (x3 x4 : FVec Ideal S64 .f32)

/-! The keys. -/

theorem v87_at (d : Fin 8) : val_main_v87 (F := Ideal) (ix1 d)
    = Ideal.pow (Ideal.ofBits .f32 0x48F42400#32) (Ideal.div (-(FloatOps.sitofp .f32 (BitVec.ofNat 32 (d : ℕ)) : Ideal .f32)) (Ideal.ofBits .f32 0x41000000#32)) := by
  rw [val_main_v87_apply, val_main_v86_apply, val_main_v85_apply, val_main_v84_apply, val_main_v83_apply]
  rfl

theorem v93_at (p : Fin 8192) (d : Fin 8) : val_main_v93 (F := Ideal) (ix2 p d) = ang p d := by
  rw [val_main_v93_apply, val_main_v91_apply, val_main_v89_apply, val_main_v88_apply, val_main_v1_apply, val_main_v92_apply, val_main_v90_apply]
  exact congrArg (_ * ·) ((congrArg (val_main_v87 (F := Ideal)) (eq_ix1 _)).trans (v87_at d))

theorem cos51_at (p : Fin 8192) (d : Fin 8) : val_main_v94 (F := Ideal) (ix2 p d) = cosA p d := by
  rw [val_main_v94_apply]
  exact congrArg Ideal.cos (v93_at p d)

theorem sin51_at (p : Fin 8192) (d : Fin 8) : val_main_v96 (F := Ideal) (ix2 p d) = sinA p d := by
  rw [val_main_v96_apply]
  exact congrArg Ideal.sin (v93_at p d)

/-- The tables, spread over sequences and heads. -/
theorem v102_at (b : Fin 2) (p : Fin 8192) (h : Fin 12) (d : Fin 8) : val_main_v102 (F := Ideal) (ix4 b p h d) = cosA p d := by
  rw [val_main_v102_apply, val_main_v101_apply, val_main_v95_apply]
  exact (congrArg (val_main_v94 (F := Ideal)) (eq_ix2 _)).trans (cos51_at p d)

theorem v105_at (b : Fin 2) (p : Fin 8192) (h : Fin 12) (d : Fin 8) : val_main_v105 (F := Ideal) (ix4 b p h d) = sinA p d := by
  rw [val_main_v105_apply, val_main_v104_apply, val_main_v97_apply]
  exact (congrArg (val_main_v96 (F := Ideal)) (eq_ix2 _)).trans (sin51_at p d)

theorem v109_at (b : Fin 2) (p : Fin 8192) (h : Fin 12) (d : Fin 8) : val_main_v109 (F := Ideal) (ix4 b p h d) = cosA p d := by
  rw [val_main_v109_apply, val_main_v108_apply, val_main_v95_apply]
  exact (congrArg (val_main_v94 (F := Ideal)) (eq_ix2 _)).trans (cos51_at p d)

theorem v112_at (b : Fin 2) (p : Fin 8192) (h : Fin 12) (d : Fin 8) : val_main_v112 (F := Ideal) (ix4 b p h d) = sinA p d := by
  rw [val_main_v112_apply, val_main_v111_apply, val_main_v97_apply]
  exact (congrArg (val_main_v96 (F := Ideal)) (eq_ix2 _)).trans (sin51_at p d)

theorem cs51 (b : Fin 2) (p : Fin 8192) (d : Fin 8) : cosA p d = (R x0 b p).cs d :=
  congrArg (cosA · d) (by show p.val = (8192 * b.val + p.val) % 8192; omega)

theorem sn51 (b : Fin 2) (p : Fin 8192) (d : Fin 8) : sinA p d = (R x0 b p).sn d :=
  congrArg (sinA · d) (by show p.val = (8192 * b.val + p.val) % 8192; omega)

/-- A head's lane of the projected row. -/
theorem v68_at (b : Fin 2) (p : Fin 8192) (h : Fin 12) (d : Fin 64) :
    val_main_v68 (F := Ideal) x0 x1 x2 (ix4 b p h d) = (R x0 b p).z (W x1 x2 x3 x4) (64 * (12 + h.val) + d.val) := by
  unfold val_main_v68
  rw [shapeCast_apply _ shapeCasts_S2x8192x768_S2x8192x12x64 (ix4 b p h d) (ix3 b p ⟨64 * h.val + d.val, by omega⟩) (by
    rewrite [Shape.rowMajor_val_three, Shape.rowMajor_val_four]
    show (b.val * 8192 + p.val) * 768 + (64 * h.val + d.val) = ((b.val * 8192 + p.val) * 12 + h.val) * 64 + d.val
    omega), val_main_v67_apply]
  exact (congrArg (val_main_v15 (F := Ideal) x0 x1 x2) (eq_ix3 _)).trans ((v15_at x0 x1 x2 x3 x4 b p ⟨768 + (64 * h.val + d.val), by omega⟩).trans
    (congrArg ((R x0 b p).z (W x1 x2 x3 x4)) (by show 768 + (64 * h.val + d.val) = 64 * (12 + h.val) + d.val; omega)))

/-- The sum of a head's squares. -/
theorem v70_at (b : Fin 2) (p : Fin 8192) (h : Fin 12) : val_main_v70 (F := Ideal) x0 x1 x2 (ix3 b p h)
    = ∑ d : Fin 64, (R x0 b p).z (W x1 x2 x3 x4) (64 * (12 + h.val) + d.val) * (R x0 b p).z (W x1 x2 x3 x4) (64 * (12 + h.val) + d.val) := by
  rw [val_main_v70_apply, show val_main_cst_7 (F := Ideal) (Shape.Idx.first h_S_) = 0 from zero_lit, zero_add]
  refine Finset.sum_congr rfl fun d _ => ?_
  refine (congrArg (val_main_v69 (F := Ideal) x0 x1 x2) (eq_ix4 _)).trans ?_
  rw [val_main_v69_apply]
  exact congrArg₂ (· * ·) (v68_at x0 x1 x2 x3 x4 b p h d) (v68_at x0 x1 x2 x3 x4 b p h d)

/-- The reciprocal of the root of a head's mean square. -/
theorem v76_at (b : Fin 2) (p : Fin 8192) (h : Fin 12) : val_main_v76 (F := Ideal) x0 x1 x2 (ix4 b p h 0)
    = Ideal.rsqrt ((R x0 b p).ms (W x1 x2 x3 x4) (12 + h.val) + eps) := by
  rw [val_main_v76_apply, val_main_v75_apply, val_main_v74_apply, val_main_v73_apply, val_main_v72_apply, val_main_v71_apply]
  exact congrArg (fun w => Ideal.rsqrt (Ideal.div w (Ideal.ofBits .f32 0x42800000#32) + Ideal.ofBits .f32 0x358637BD#32))
    ((congrArg (val_main_v70 (F := Ideal) x0 x1 x2) (eq_ix3 _)).trans (v70_at x0 x1 x2 x3 x4 b p h))

theorem hw51_of (h : Fin 12) (d : Fin 64) : (W x1 x2 x3 x4).hw (64 * (12 + h.val) + d.val) = x4 (ix1 d) := by
  have e : (64 * (12 + h.val) + d.val) % 64 = d.val := by omega
  show (if 64 * (12 + h.val) + d.val < 768 then _ else x4 (ix1 ⟨(64 * (12 + h.val) + d.val) % 64, _⟩)) = _
  rw [if_neg (by omega)]
  exact congrArg (fun i => x4 (ix1 i)) (Fin.ext e)

/-- The normalised heads. -/
theorem v81_at (b : Fin 2) (p : Fin 8192) (h : Fin 12) (d : Fin 64) :
    val_main_v81 (F := Ideal) x0 x1 x2 x4 (ix4 b p h d) = (R x0 b p).y (W x1 x2 x3 x4) (64 * (12 + h.val) + d.val) := by
  rw [val_main_v81_apply, val_main_v80_apply, val_main_v79_apply, val_main_v78_apply, val_main_v77_apply, y_of _ _ _ _ d.isLt, hw51_of]
  exact congrArg₂ (· * ·) (congrArg₂ (· * ·) (v68_at x0 x1 x2 x3 x4 b p h d)
    ((congrArg (val_main_v76 (F := Ideal) x0 x1 x2) (eq_ix4 _)).trans (v76_at x0 x1 x2 x3 x4 b p h))) (congrArg x4 (eq_ix1 _))

/-- The first two octets of lanes. -/
theorem v99_at (b : Fin 2) (p : Fin 8192) (h : Fin 12) (d : Fin 8) :
    val_main_v99 (F := Ideal) x0 x1 x2 x4 (ix4 b p h d) = (R x0 b p).y (W x1 x2 x3 x4) (64 * (12 + h.val) + d.val) := by
  rw [val_main_v99_apply, val_main_v98_apply]
  exact (congrArg (val_main_v81 (F := Ideal) x0 x1 x2 x4) (eq_ix4 _)).trans (v81_at x0 x1 x2 x3 x4 b p h ⟨d.val, by omega⟩)

theorem v100_at (b : Fin 2) (p : Fin 8192) (h : Fin 12) (d : Fin 8) :
    val_main_v100 (F := Ideal) x0 x1 x2 x4 (ix4 b p h d) = (R x0 b p).y (W x1 x2 x3 x4) (64 * (12 + h.val) + (8 + d.val)) := by
  rw [val_main_v100_apply, val_main_v98_apply]
  exact (congrArg (val_main_v81 (F := Ideal) x0 x1 x2 x4) (eq_ix4 _)).trans (v81_at x0 x1 x2 x3 x4 b p h ⟨8 + d.val, by omega⟩)

/-- The octets, rotated. -/
theorem v107_at (b : Fin 2) (p : Fin 8192) (h : Fin 12) (d : Fin 8) :
    val_main_v107 (F := Ideal) x0 x1 x2 x4 (ix4 b p h d)
      = (R x0 b p).y (W x1 x2 x3 x4) (64 * (12 + h.val) + d.val) * (R x0 b p).cs d - (R x0 b p).y (W x1 x2 x3 x4) (64 * (12 + h.val) + (8 + d.val)) * (R x0 b p).sn d := by
  rw [val_main_v107_apply, val_main_v103_apply, val_main_v106_apply, v99_at x0 x1 x2 x3 x4, v100_at x0 x1 x2 x3 x4, v102_at, v105_at, cs51 x0 b p d, sn51 x0 b p d]
  rfl

theorem v114_at (b : Fin 2) (p : Fin 8192) (h : Fin 12) (d : Fin 8) :
    val_main_v114 (F := Ideal) x0 x1 x2 x4 (ix4 b p h d)
      = (R x0 b p).y (W x1 x2 x3 x4) (64 * (12 + h.val) + (8 + d.val)) * (R x0 b p).cs d + (R x0 b p).y (W x1 x2 x3 x4) (64 * (12 + h.val) + d.val) * (R x0 b p).sn d := by
  rw [val_main_v114_apply, val_main_v110_apply, val_main_v113_apply, v99_at x0 x1 x2 x3 x4, v100_at x0 x1 x2 x3 x4, v109_at, v112_at, cs51 x0 b p d, sn51 x0 b p d]
  rfl

theorem v116_at (b : Fin 2) (p : Fin 8192) (h : Fin 12) (d : Fin 48) :
    val_main_v116 (F := Ideal) x0 x1 x2 x4 (ix4 b p h d) = (R x0 b p).y (W x1 x2 x3 x4) (64 * (12 + h.val) + (16 + d.val)) := by
  rw [val_main_v116_apply]
  exact (congrArg (val_main_v81 (F := Ideal) x0 x1 x2 x4) (eq_ix4 _)).trans (v81_at x0 x1 x2 x3 x4 b p h ⟨16 + d.val, by omega⟩)

/-- The heads, rotated. -/
theorem v117_at (b : Fin 2) (p : Fin 8192) (h : Fin 12) (d : Fin 64) :
    val_main_v117 (F := Ideal) x0 x1 x2 x4 (ix4 b p h d) = rope ((R x0 b p).y (W x1 x2 x3 x4)) (R x0 b p).cs (R x0 b p).sn (64 * (12 + h.val) + d.val) := by
  refine (rope_of _ _ _ (12 + h.val) d).trans ?_ |>.symm
  pointwise [val_main_v117, val_main_v115]
  by_cases h1 : d.val < 8
  · have h2 : d.val < 16 := by omega
    simp only [dif_pos h1, dif_pos h2]
    exact (v107_at x0 x1 x2 x3 x4 b p h ⟨d.val, h1⟩).symm
  · by_cases h2 : d.val < 16
    · simp only [dif_neg h1, dif_pos h2]
      exact (v114_at x0 x1 x2 x3 x4 b p h ⟨d.val - 8, by omega⟩).symm
    · simp only [dif_neg h1, dif_neg h2]
      exact (v116_at x0 x1 x2 x3 x4 b p h ⟨d.val - 16, by omega⟩).symm

end Cert.InprojRefIdeal.Rows

end
-- ==== Proof.InprojRefOut.lean ====
/- The reference of the input projection: the array it leaves. -/
module

public import proofs.«01_k».proof.Proof.InprojRefQ
public import proofs.«01_k».proof.Proof.InprojRefK

@[expose] public section

set_option maxRecDepth 16384

noncomputable section

namespace Cert.InprojRefIdeal.Rows

open Idealize.ShloMosaic
open Cert.InprojRefIdeal Cert.InprojRefIdeal.Gen Cert.InprojRefIdeal.Read
open Cert.Inproj (Row Weights rowAt weightsOf eps rope cosA sinA ang)

variable (x0 : FVec Ideal S16384x1024 .f32) (x1 : FVec Ideal S1024 .f32) (x2 : FVec Ideal S1024x4864 .f32) (x3 x4 : FVec Ideal S64 .f32)

/-- The rows of the queries. -/
theorem v123_at (b : Fin 2) (p : Fin 8192) (c : Fin 768) :
    val_main_v123 (F := Ideal) x0 x1 x2 x3 (ix2 (at2 b p) c) = rope ((R x0 b p).y (W x1 x2 x3 x4)) (R x0 b p).cs (R x0 b p).sn (0 + c.val) := by
  unfold val_main_v123
  rw [shapeCast_apply _ shapeCasts_S2x8192x12x64_S16384x768 (ix2 (at2 b p) c) (ix4 b p ⟨c.val / 64, by omega⟩ ⟨c.val % 64, by omega⟩) (by
    rewrite [Shape.rowMajor_val_two, Shape.rowMajor_val_four]
    show ((b.val * 8192 + p.val) * 12 + c.val / 64) * 64 + c.val % 64 = (8192 * b.val + p.val) * 768 + c.val
    omega), v66_at x0 x1 x2 x3 x4]
  exact congrArg (rope _ _ _) (by show 64 * (c.val / 64) + c.val % 64 = 0 + c.val; omega)

/-- The rows of the keys. -/
theorem v124_at (b : Fin 2) (p : Fin 8192) (c : Fin 768) :
    val_main_v124 (F := Ideal) x0 x1 x2 x4 (ix2 (at2 b p) c) = rope ((R x0 b p).y (W x1 x2 x3 x4)) (R x0 b p).cs (R x0 b p).sn (768 + c.val) := by
  unfold val_main_v124
  rw [shapeCast_apply _ shapeCasts_S2x8192x12x64_S16384x768 (ix2 (at2 b p) c) (ix4 b p ⟨c.val / 64, by omega⟩ ⟨c.val % 64, by omega⟩) (by
    rewrite [Shape.rowMajor_val_two, Shape.rowMajor_val_four]
    show ((b.val * 8192 + p.val) * 12 + c.val / 64) * 64 + c.val % 64 = (8192 * b.val + p.val) * 768 + c.val
    omega), v117_at x0 x1 x2 x3 x4]
  exact congrArg (rope _ _ _) (by show 64 * (12 + c.val / 64) + c.val % 64 = 768 + c.val; omega)

/-- The rows of the values. -/
theorem v125_at (b : Fin 2) (p : Fin 8192) (c : Fin 768) :
    val_main_v125 (F := Ideal) x0 x1 x2 (ix2 (at2 b p) c) = (R x0 b p).z (W x1 x2 x3 x4) (1536 + c.val) := by
  unfold val_main_v125
  rw [shapeCast_apply _ shapeCasts_S2x8192x12x64_S16384x768 (ix2 (at2 b p) c) (ix4 b p ⟨c.val / 64, by omega⟩ ⟨c.val % 64, by omega⟩) (by
    rewrite [Shape.rowMajor_val_two, Shape.rowMajor_val_four]
    show ((b.val * 8192 + p.val) * 12 + c.val / 64) * 64 + c.val % 64 = (8192 * b.val + p.val) * 768 + c.val
    omega)]
  unfold val_main_v119
  rw [shapeCast_apply _ shapeCasts_S2x8192x768_S2x8192x12x64 (ix4 b p ⟨c.val / 64, by omega⟩ ⟨c.val % 64, by omega⟩) (ix3 b p c) (by
    rewrite [Shape.rowMajor_val_three, Shape.rowMajor_val_four]
    show (b.val * 8192 + p.val) * 768 + c.val = ((b.val * 8192 + p.val) * 12 + c.val / 64) * 64 + c.val % 64
    omega), val_main_v118_apply]
  exact (congrArg (val_main_v15 (F := Ideal) x0 x1 x2) (eq_ix3 _)).trans (v15_at x0 x1 x2 x3 x4 b p ⟨1536 + c.val, by omega⟩)

/-- The rows of the recurrence's inputs. -/
theorem v126_at (b : Fin 2) (p : Fin 8192) (c : Fin 512) :
    val_main_v126 (F := Ideal) x0 x1 x2 (ix2 (at2 b p) c) = (R x0 b p).z (W x1 x2 x3 x4) (2304 + c.val) := by
  unfold val_main_v126
  rw [shapeCast_apply _ shapeCasts_S2x8192x512_S16384x512 (ix2 (at2 b p) c) (ix3 b p c) (by
    rewrite [Shape.rowMajor_val_two, Shape.rowMajor_val_three]
    show (b.val * 8192 + p.val) * 512 + c.val = (8192 * b.val + p.val) * 512 + c.val
    omega), val_main_v120_apply]
  exact (congrArg (val_main_v15 (F := Ideal) x0 x1 x2) (eq_ix3 _)).trans (v15_at x0 x1 x2 x3 x4 b p ⟨2304 + c.val, by omega⟩)

/-- The rows of the first gate. -/
theorem v127_at (b : Fin 2) (p : Fin 8192) (c : Fin 1024) :
    val_main_v127 (F := Ideal) x0 x1 x2 (ix2 (at2 b p) c) = (R x0 b p).z (W x1 x2 x3 x4) (2816 + c.val) := by
  unfold val_main_v127
  rw [shapeCast_apply _ shapeCasts_S2x8192x1024_S16384x1024 (ix2 (at2 b p) c) (ix3 b p c) (by
    rewrite [Shape.rowMajor_val_two, Shape.rowMajor_val_three]
    show (b.val * 8192 + p.val) * 1024 + c.val = (8192 * b.val + p.val) * 1024 + c.val
    omega), val_main_v121_apply]
  exact (congrArg (val_main_v15 (F := Ideal) x0 x1 x2) (eq_ix3 _)).trans (v15_at x0 x1 x2 x3 x4 b p ⟨2816 + c.val, by omega⟩)

/-- The rows of the second gate. -/
theorem v128_at (b : Fin 2) (p : Fin 8192) (c : Fin 1024) :
    val_main_v128 (F := Ideal) x0 x1 x2 (ix2 (at2 b p) c) = (R x0 b p).z (W x1 x2 x3 x4) (3840 + c.val) := by
  unfold val_main_v128
  rw [shapeCast_apply _ shapeCasts_S2x8192x1024_S16384x1024 (ix2 (at2 b p) c) (ix3 b p c) (by
    rewrite [Shape.rowMajor_val_two, Shape.rowMajor_val_three]
    show (b.val * 8192 + p.val) * 1024 + c.val = (8192 * b.val + p.val) * 1024 + c.val
    omega), val_main_v122_apply]
  exact (congrArg (val_main_v15 (F := Ideal) x0 x1 x2) (eq_ix3 _)).trans (v15_at x0 x1 x2 x3 x4 b p ⟨3840 + c.val, by omega⟩)

/-- Seven arrays beside each other, read at a column. -/
theorem cat_at (a b v : FVec Ideal S16384x768 .f32) (o : FVec Ideal S16384x256 .f32) (u : FVec Ideal S16384x512 .f32) (g w : FVec Ideal S16384x1024 .f32) (r : Fin 16384) (c : Fin 5120) :
    concatenate S16384x5120 1 [⟨S16384x768, a⟩, ⟨S16384x768, b⟩, ⟨S16384x768, v⟩, ⟨S16384x256, o⟩, ⟨S16384x512, u⟩, ⟨S16384x1024, g⟩, ⟨S16384x1024, w⟩]
        concatenates_S16384x768_S16384x768_S16384x768_S16384x256_S16384x512_S16384x1024_S16384x1024_S16384x5120_d1 (ix2 r c)
      = if h : c.val < 768 then a (ix2 r ⟨c.val, h⟩) else if h : c.val - 768 < 768 then b (ix2 r ⟨c.val - 768, h⟩) else if h : c.val - 768 - 768 < 768 then v (ix2 r ⟨c.val - 768 - 768, h⟩) else if h : c.val - 768 - 768 - 768 < 256 then o (ix2 r ⟨c.val - 768 - 768 - 768, h⟩) else if h : c.val - 768 - 768 - 768 - 256 < 512 then u (ix2 r ⟨c.val - 768 - 768 - 768 - 256, h⟩) else if h : c.val - 768 - 768 - 768 - 256 - 512 < 1024 then g (ix2 r ⟨c.val - 768 - 768 - 768 - 256 - 512, h⟩) else w (ix2 r ⟨c.val - 768 - 768 - 768 - 256 - 512 - 1024, by omega⟩) := by
  pointwise

/-- The array the reference leaves. -/
theorem v130_at (b : Fin 2) (p : Fin 8192) (c : Fin 5120) :
    val_main_v130 (F := Ideal) x0 x1 x2 x3 x4 (ix2 (at2 b p) c) = (R x0 b p).out (W x1 x2 x3 x4) c.val := by
  unfold val_main_v130
  refine (cat_at _ _ _ _ _ _ _ (at2 b p) c).trans ?_
  unfold Row.out
  by_cases h1 : c.val < 768
  · rw [dif_pos h1]
    rw [if_pos (by omega)]
    exact (v123_at x0 x1 x2 x3 x4 b p ⟨c.val, by omega⟩).trans (congrArg (rope _ _ _) (by show 0 + (c.val) = c.val; omega))
  by_cases h2 : c.val - 768 < 768
  · rw [dif_neg h1, dif_pos h2]
    rw [if_pos (by omega)]
    exact (v124_at x0 x1 x2 x3 x4 b p ⟨c.val - 768, by omega⟩).trans (congrArg (rope _ _ _) (by show 768 + (c.val - 768) = c.val; omega))
  by_cases h3 : c.val - 768 - 768 < 768
  · rw [dif_neg h1, dif_neg h2, dif_pos h3]
    rw [if_neg (by omega), if_pos (by omega)]
    exact (v125_at x0 x1 x2 x3 x4 b p ⟨c.val - 768 - 768, by omega⟩).trans (congrArg (Row.z _ _) (by show 1536 + (c.val - 768 - 768) = c.val; omega))
  by_cases h4 : c.val - 768 - 768 - 768 < 256
  · rw [dif_neg h1, dif_neg h2, dif_neg h3, dif_pos h4]
    rw [if_neg (by omega), if_neg (by omega), if_pos (by omega)]
    rw [val_main_v129_apply]
    exact zero_lit
  by_cases h5 : c.val - 768 - 768 - 768 - 256 < 512
  · rw [dif_neg h1, dif_neg h2, dif_neg h3, dif_neg h4, dif_pos h5]
    rw [if_neg (by omega), if_neg (by omega), if_neg (by omega)]
    exact (v126_at x0 x1 x2 x3 x4 b p ⟨c.val - 768 - 768 - 768 - 256, by omega⟩).trans (congrArg (Row.z _ _) (by show 2304 + (c.val - 768 - 768 - 768 - 256) = c.val - 256; omega))
  by_cases h6 : c.val - 768 - 768 - 768 - 256 - 512 < 1024
  · rw [dif_neg h1, dif_neg h2, dif_neg h3, dif_neg h4, dif_neg h5, dif_pos h6]
    rw [if_neg (by omega), if_neg (by omega), if_neg (by omega)]
    exact (v127_at x0 x1 x2 x3 x4 b p ⟨c.val - 768 - 768 - 768 - 256 - 512, by omega⟩).trans (congrArg (Row.z _ _) (by show 2816 + (c.val - 768 - 768 - 768 - 256 - 512) = c.val - 256; omega))
  rw [dif_neg h1, dif_neg h2, dif_neg h3, dif_neg h4, dif_neg h5, dif_neg h6]
  rw [if_neg (by omega), if_neg (by omega), if_neg (by omega)]
  exact (v128_at x0 x1 x2 x3 x4 b p ⟨c.val - 768 - 768 - 768 - 256 - 512 - 1024, by omega⟩).trans (congrArg (Row.z _ _) (by show 3840 + (c.val - 768 - 768 - 768 - 256 - 512 - 1024) = c.val - 256; omega))

/-- Every row is one of the two sequences' positions. -/
theorem out_at (r : Fin 16384) (c : Fin 5120) :
    val_main_v130 (F := Ideal) x0 x1 x2 x3 x4 (ix2 r c) = (rowAt x0 r).out (W x1 x2 x3 x4) c.val := by
  have e : r = at2 ⟨r.val / 8192, by omega⟩ ⟨r.val % 8192, by omega⟩ := Fin.ext (by show r.val = 8192 * (r.val / 8192) + r.val % 8192; omega)
  rw [e]
  exact v130_at x0 x1 x2 x3 x4 _ _ c

end Cert.InprojRefIdeal.Rows

end
-- ==== Proof.InprojRefWin.lean ====
/- The reference of the input projection: the windows it leaves. -/
module

public import proofs.«01_k».proof.Proof.InprojRefOut
public import proofs.«01_k».proof.Proof.InprojStack

@[expose] public section

set_option maxRecDepth 16384

noncomputable section

namespace Cert.InprojRefIdeal.Rows

open Idealize.ShloMosaic
open Cert.InprojRefIdeal Cert.InprojRefIdeal.Gen Cert.InprojRefIdeal.Read
open Cert.Inproj (Row Weights rowAt weightsOf eps rope window stack_at heads_at)

variable (x0 : FVec Ideal S16384x1024 .f32) (x1 : FVec Ideal S1024 .f32) (x2 : FVec Ideal S1024x4864 .f32) (x3 x4 : FVec Ideal S64 .f32)

/-- The key of a head, as the projected row holds it. -/
theorem key_at (b : Fin 2) (p : Fin 8192) (h : Fin 12) (d : Fin 64) :
    val_main_v117 (F := Ideal) x0 x1 x2 x4 (ix4 b p h d) = (R x0 b p).out (W x1 x2 x3 x4) (768 + (64 * h.val + d.val)) := by
  unfold Row.out
  rw [if_pos (by omega)]
  exact (v117_at x0 x1 x2 x3 x4 b p h d).trans (congrArg (rope _ _ _) (by omega))

/-- The value of a head, as the projected row holds it. -/
theorem value_at (b : Fin 2) (p : Fin 8192) (h : Fin 12) (d : Fin 64) :
    val_main_v119 (F := Ideal) x0 x1 x2 (ix4 b p h d) = (R x0 b p).out (W x1 x2 x3 x4) (1536 + (64 * h.val + d.val)) := by
  unfold Row.out
  rw [if_neg (by omega), if_pos (by omega)]
  unfold val_main_v119
  rw [shapeCast_apply _ shapeCasts_S2x8192x768_S2x8192x12x64 (ix4 b p h d) (ix3 b p ⟨64 * h.val + d.val, by omega⟩) (by
    rewrite [Shape.rowMajor_val_three, Shape.rowMajor_val_four]
    show (b.val * 8192 + p.val) * 768 + (64 * h.val + d.val) = ((b.val * 8192 + p.val) * 12 + h.val) * 64 + d.val
    omega), val_main_v118_apply]
  exact (congrArg (val_main_v15 (F := Ideal) x0 x1 x2) (eq_ix3 _)).trans (v15_at x0 x1 x2 x3 x4 b p ⟨1536 + (64 * h.val + d.val), by omega⟩)

/-- Each window is that of the projected rows. -/
theorem win1_eq : val_main_v135 (F := Ideal) x0 x1 x2 x4 = window 128 8064 0 rfl fun r => (rowAt x0 r).out (W x1 x2 x3 x4) := by
  funext j
  obtain ⟨b, p, s, h, d, rfl⟩ : ∃ b p s h d, j = ix5 b p s h d := ⟨_, _, _, _, _, eq_ix5 j⟩
  refine (stack_at (val_main_v131 (F := Ideal) x0 x1 x2 x4) (val_main_v132 (F := Ideal) x0 x1 x2) _ _ b p s h d).trans ?_
  by_cases hs : s.val = 0
  · rw [if_pos hs]
    refine (heads_at rfl (by decide) _ _ b p h d).trans ((key_at x0 x1 x2 x3 x4 _ _ _ _).trans (congrArg (Row.out _ _) ?_))
    show 768 + (64 * (0 + h.val) + d.val) = 768 + 768 * s.val + 64 * 0 + (64 * h.val + d.val)
    omega
  · rw [if_neg hs]
    refine (heads_at rfl (by decide) _ _ b p h d).trans ((value_at x0 x1 x2 x3 x4 _ _ _ _).trans (congrArg (Row.out _ _) ?_))
    show 1536 + (64 * (0 + h.val) + d.val) = 768 + 768 * s.val + 64 * 0 + (64 * h.val + d.val)
    omega

theorem win2_eq : val_main_v140 (F := Ideal) x0 x1 x2 x4 = window 512 7680 4 rfl fun r => (rowAt x0 r).out (W x1 x2 x3 x4) := by
  funext j
  obtain ⟨b, p, s, h, d, rfl⟩ : ∃ b p s h d, j = ix5 b p s h d := ⟨_, _, _, _, _, eq_ix5 j⟩
  refine (stack_at (val_main_v136 (F := Ideal) x0 x1 x2 x4) (val_main_v137 (F := Ideal) x0 x1 x2) _ _ b p s h d).trans ?_
  by_cases hs : s.val = 0
  · rw [if_pos hs]
    refine (heads_at rfl (by decide) _ _ b p h d).trans ((key_at x0 x1 x2 x3 x4 _ _ _ _).trans (congrArg (Row.out _ _) ?_))
    show 768 + (64 * (4 + h.val) + d.val) = 768 + 768 * s.val + 64 * 4 + (64 * h.val + d.val)
    omega
  · rw [if_neg hs]
    refine (heads_at rfl (by decide) _ _ b p h d).trans ((value_at x0 x1 x2 x3 x4 _ _ _ _).trans (congrArg (Row.out _ _) ?_))
    show 1536 + (64 * (4 + h.val) + d.val) = 768 + 768 * s.val + 64 * 4 + (64 * h.val + d.val)
    omega

theorem win3_eq : val_main_v145 (F := Ideal) x0 x1 x2 x4 = window 2048 6144 8 rfl fun r => (rowAt x0 r).out (W x1 x2 x3 x4) := by
  funext j
  obtain ⟨b, p, s, h, d, rfl⟩ : ∃ b p s h d, j = ix5 b p s h d := ⟨_, _, _, _, _, eq_ix5 j⟩
  refine (stack_at (val_main_v141 (F := Ideal) x0 x1 x2 x4) (val_main_v142 (F := Ideal) x0 x1 x2) _ _ b p s h d).trans ?_
  by_cases hs : s.val = 0
  · rw [if_pos hs]
    refine (heads_at rfl (by decide) _ _ b p h d).trans ((key_at x0 x1 x2 x3 x4 _ _ _ _).trans (congrArg (Row.out _ _) ?_))
    show 768 + (64 * (8 + h.val) + d.val) = 768 + 768 * s.val + 64 * 8 + (64 * h.val + d.val)
    omega
  · rw [if_neg hs]
    refine (heads_at rfl (by decide) _ _ b p h d).trans ((value_at x0 x1 x2 x3 x4 _ _ _ _).trans (congrArg (Row.out _ _) ?_))
    show 1536 + (64 * (8 + h.val) + d.val) = 768 + 768 * s.val + 64 * 8 + (64 * h.val + d.val)
    omega

end Cert.InprojRefIdeal.Rows

end
-- ==== Proof.InprojClaim.lean ====
/- The input projection: the frames and the value claim, put together from the two sides' values. -/
module

public import proofs.«01_k».proof.Defs
public import proofs.«01_k».proof.Proof.Real
public import proofs.«01_k».proof.Proof.InprojFinal
public import proofs.«01_k».proof.Proof.InprojTail
public import proofs.«01_k».proof.Proof.InprojRefOut
public import proofs.«01_k».proof.Proof.InprojRefWin
public import proofs.«01_k».proof.Proof.Gen.Inproj.Frame
public import proofs.«01_k».proof.Proof.Gen.InprojRefIdeal.Run
public import proofs.«01_k».proof.Proof.Gen.Pre_finite_inputs

@[expose] public section

noncomputable section

namespace Cert.Proof.Inproj

open Idealize.ShloMosaic Idealize.SL.Sem

/-- The kernel runs and leaves its arguments as they were. -/
theorem frame_p : Cert.quiescent_Inproj := fun m ρ _ => Cert.Inproj.Gen.frame m ρ

/-- So does the idealized kernel. -/
theorem frame_pi : Cert.quiescent_InprojIdeal := fun m ρ _ => Cert.InprojIdeal.Gen.frame m ρ

theorem frame_pi_pre : Cert.quiescent_InprojIdeal_pre_finite_inputs := fun m ρ _ => Cert.InprojIdeal.Gen.frame m ρ

/-- The reference runs and leaves its arguments as they were. -/
theorem frame_ri : Cert.quiescent_InprojRefIdeal := fun m ρ _ =>
  (θ_run Cert.InprojRefIdeal.defs _ _).mono (fun r h => ⟨fun c => (h c).2.2.2.2, sem_eq_zero_of_no_sems (by decide) r.2⟩)
    (Cert.InprojRefIdeal.Value.run (F := Ideal) m ρ)

theorem frame_ri_pre : Cert.quiescent_InprojRefIdeal_pre_finite_inputs := fun m ρ _ =>
  (θ_run Cert.InprojRefIdeal.defs _ _).mono (fun r h => ⟨fun c => (h c).2.2.2.2, sem_eq_zero_of_no_sems (by decide) r.2⟩)
    (Cert.InprojRefIdeal.Value.run (F := Ideal) m ρ)

/-- The kernel and its idealization are one text. -/
theorem preserves : Cert.preserves_Inproj_InprojIdeal := trivial

/-- The precondition says that the rows' scale and the weights are reals; then so is the projection. -/
theorem real_of_pre (m : (ℓ : Loc Cert.InprojIdeal.nD Cert.InprojIdeal.τ Cert.InprojIdeal.sig) → Buf (Elt Ideal) ℓ)
    (h : Cert.Pre_InprojIdeal_finite_inputs m) (c : Dev Cert.InprojIdeal.nD) (r : Fin 16384) (k : ℕ) :
    ∃ z : ℝ, (Cert.InprojIdeal.Final.row m c r).z (Cert.InprojIdeal.Final.wts m c) k = z := by
  obtain ⟨h1, h2⟩ := h c
  refine Cert.Inproj.Row.z_real (Cert.InprojIdeal.Final.row m c r) (Cert.InprojIdeal.Final.wts m c) (fun k => real_of_word _ (congrFun h1 (ix1 k))) (fun k q => ?_) k
  by_cases hq : q < 4864
  · obtain ⟨w, hw⟩ := real_of_word _ (congrFun h2 (ix2 k ⟨q, hq⟩))
    exact ⟨w, (dif_pos hq).trans hw⟩
  · exact ⟨0, (dif_neg hq).trans EReal.coe_zero.symm⟩

/-- The projected rows, as the launched arrays determine them. -/
abbrev out (m : (ℓ : Loc Cert.InprojIdeal.nD Cert.InprojIdeal.τ Cert.InprojIdeal.sig) → Buf (Elt Ideal) ℓ) (c : Dev Cert.InprojIdeal.nD) :
    Fin 16384 → ℕ → EReal :=
  fun r => (Cert.InprojIdeal.Final.row m c r).out (Cert.InprojIdeal.Final.wts m c)

/-- The idealized kernel and the reference end with the same projected rows and windows, for a real scale and real weights. -/
theorem algebraic : Cert.algebraic_InprojIdeal_InprojRefIdeal_pre_finite_inputs := by
  intro m g m' g' hpre hagree
  refine ⟨fun c => (fun j : Cert.InprojIdeal.S16384x5120.Idx => out m c (j 0) (j 1).val), fun c => Cert.Inproj.window 128 8064 0 rfl (out m c),
    fun c => Cert.Inproj.window 512 7680 4 rfl (out m c), fun c => Cert.Inproj.window 2048 6144 8 rfl (out m c), ?_, ?_⟩
  · refine (θ_run Cert.InprojIdeal.defs _ _).mono (fun r h c => ?_) (Cert.InprojIdeal.Tail.run m g)
    obtain ⟨e0, e1, e2, e3, ha⟩ := h c
    have hf := Cert.InprojIdeal.Final.final m c (real_of_pre m hpre c)
    exact ⟨e0.trans hf, e1.trans ((congrArg Cert.InprojIdeal.Tail.win1 hf).trans (Cert.InprojIdeal.Tail.win1_at (out m c))),
      e2.trans ((congrArg Cert.InprojIdeal.Tail.win2 hf).trans (Cert.InprojIdeal.Tail.win2_at (out m c))),
      e3.trans ((congrArg Cert.InprojIdeal.Tail.win3 hf).trans (Cert.InprojIdeal.Tail.win3_at (out m c))), ha⟩
  · refine (θ_run Cert.InprojRefIdeal.defs _ _).mono (fun r h c => ?_) (Cert.InprojRefIdeal.Value.run (F := Ideal) m' g')
    obtain ⟨f0, f1, f2, f3, ha⟩ := h c
    obtain ⟨e0, e1, e2, e3, e4⟩ := hagree c
    refine ⟨f0.trans ((Cert.InprojRefIdeal.Read.val_main_v130_eq m' c).trans ?_), f1.trans ((Cert.InprojRefIdeal.Read.val_main_v135_eq m' c).trans ?_),
      f2.trans ((Cert.InprojRefIdeal.Read.val_main_v140_eq m' c).trans ?_), f3.trans ((Cert.InprojRefIdeal.Read.val_main_v145_eq m' c).trans ?_), ha⟩
    · rw [e0, e1, e2, e3, e4]
      exact funext fun j => (congrArg (Cert.InprojRefIdeal.Read.val_main_v130 (F := Ideal) _ _ _ _ _) (eq_ix2 j)).trans
        (Cert.InprojRefIdeal.Rows.out_at _ _ _ _ _ (j 0) (j 1))
    · rw [e0, e1, e2, e4]
      exact Cert.InprojRefIdeal.Rows.win1_eq _ _ _ (m ((c.tc : Thread Cert.InprojIdeal.nD Cert.InprojIdeal.τ).loc Cert.InprojIdeal.main_arg3)) _
    · rw [e0, e1, e2, e4]
      exact Cert.InprojRefIdeal.Rows.win2_eq _ _ _ (m ((c.tc : Thread Cert.InprojIdeal.nD Cert.InprojIdeal.τ).loc Cert.InprojIdeal.main_arg3)) _
    · rw [e0, e1, e2, e4]
      exact Cert.InprojRefIdeal.Rows.win3_eq _ _ _ (m ((c.tc : Thread Cert.InprojIdeal.nD Cert.InprojIdeal.τ).loc Cert.InprojIdeal.main_arg3)) _

end Cert.Proof.Inproj

end
-- ==== Proof.MergeSpec.lean ====
/- The merge of the attention and state space branches: the mathematics of one row. -/
module

public import proofs.«01_k».proof.Proof.Soft
public import Idealize.ShloMosaic.Lib.Pointwise

@[expose] public section

noncomputable section

namespace Cert.Merge

open Idealize.ShloMosaic

/-- What a row of the merge reads: the three groups' log-sum-exps and outputs by lane, the state space layer's output,
    the residual row and the two gates. -/
structure Row where
  l1 : Fin 256 → EReal
  l2 : Fin 256 → EReal
  l3 : Fin 256 → EReal
  o1 : Fin 256 → EReal
  o2 : Fin 256 → EReal
  o3 : Fin 256 → EReal
  s : Fin 512 → EReal
  x : Fin 1024 → EReal
  ga : Fin 1024 → EReal
  gb : Fin 1024 → EReal

/-- The weights: of the attention's output, of the gated linear unit, of the output, and of the normalisation. -/
structure Weights where
  wao : Fin 256 → Fin 1024 → EReal
  wglu : Fin 512 → Fin 2048 → EReal
  wout : Fin 1024 → Fin 1024 → EReal
  nf : Fin 1024 → EReal

/-- The logistic function. -/
def sgm (x : EReal) : EReal := Ideal.div 1 (1 + Ideal.exp (-x))

theorem logistic_eq (x : EReal) : Ideal.logistic x = sgm x := rfl

/-- Three outputs mixed by their log-sum-exps: the exponentials' products, over the exponentials' total. -/
def mix (l1 l2 l3 o1 o2 o3 : EReal) : EReal :=
  Ideal.div (Ideal.exp (l1 - max (max l1 l2) l3) * o1 + Ideal.exp (l2 - max (max l1 l2) l3) * o2 + Ideal.exp (l3 - max (max l1 l2) l3) * o3)
    (Ideal.exp (l1 - max (max l1 l2) l3) + Ideal.exp (l2 - max (max l1 l2) l3) + Ideal.exp (l3 - max (max l1 l2) l3))

/-- The largest of three. -/
theorem fold_three (f : Fin 3 → EReal) : Finset.univ.fold max ⊥ f = max (max (f 0) (f 1)) (f 2) := by
  rw [show (Finset.univ : Finset (Fin 3)) = {0, 1, 2} from by decide]
  simp [max_assoc]

/-- The mixture by weights, for real log-sum-exps: dividing each exponential by the total first changes nothing. -/
theorem mix_eq {l1 l2 l3 : EReal} (h1 : ∃ r : ℝ, l1 = r) (h2 : ∃ r : ℝ, l2 = r) (h3 : ∃ r : ℝ, l3 = r) (o1 o2 o3 : EReal) :
    Ideal.div (Ideal.exp (l1 - max (max l1 l2) l3)) (Ideal.exp (l1 - max (max l1 l2) l3) + Ideal.exp (l2 - max (max l1 l2) l3) + Ideal.exp (l3 - max (max l1 l2) l3)) * o1
      + Ideal.div (Ideal.exp (l2 - max (max l1 l2) l3)) (Ideal.exp (l1 - max (max l1 l2) l3) + Ideal.exp (l2 - max (max l1 l2) l3) + Ideal.exp (l3 - max (max l1 l2) l3)) * o2
      + Ideal.div (Ideal.exp (l3 - max (max l1 l2) l3)) (Ideal.exp (l1 - max (max l1 l2) l3) + Ideal.exp (l2 - max (max l1 l2) l3) + Ideal.exp (l3 - max (max l1 l2) l3)) * o3
      = mix l1 l2 l3 o1 o2 o3 := by
  obtain ⟨a, rfl⟩ := h1
  obtain ⟨b, rfl⟩ := h2
  obtain ⟨c, rfl⟩ := h3
  unfold mix
  have hm : max (max (a : EReal) (b : EReal)) (c : EReal) = ((max (max a b) c : ℝ) : EReal) := by
    rw [EReal.coe_strictMono.monotone.map_max, EReal.coe_strictMono.monotone.map_max]
  rw [hm]
  simp only [← EReal.coe_sub, Soft.exp_coe, ← EReal.coe_add]
  have hS : 0 < Real.exp (a - max (max a b) c) + Real.exp (b - max (max a b) c) + Real.exp (c - max (max a b) c) := by positivity
  generalize Real.exp (a - max (max a b) c) = e1 at *
  generalize Real.exp (b - max (max a b) c) = e2 at *
  generalize Real.exp (c - max (max a b) c) = e3 at *
  generalize e1 + e2 + e3 = S at *
  have hS0 : (S : EReal) ≠ 0 := by simpa using hS.ne'
  unfold Ideal.div
  simp only [if_neg hS0]
  have hi : (S : EReal)⁻¹ = ((S⁻¹ : ℝ) : EReal) := (EReal.coe_inv S).symm
  have hi0 : (0 : EReal) ≤ (S : EReal)⁻¹ := by rw [hi]; exact_mod_cast (inv_pos.mpr hS).le
  have hit : (S : EReal)⁻¹ ≠ ⊤ := by rw [hi]; exact EReal.coe_ne_top _
  rw [EReal.right_distrib_of_nonneg_of_ne_top hi0 hit, EReal.right_distrib_of_nonneg_of_ne_top hi0 hit,
    mul_right_comm (e1 : EReal), mul_right_comm (e2 : EReal), mul_right_comm (e3 : EReal)]

namespace Row

variable (R : Row) (W : Weights)

/-- The mixed attention at a lane. -/
def att (k : Fin 256) : EReal := mix (R.l1 k) (R.l2 k) (R.l3 k) (R.o1 k) (R.o2 k) (R.o3 k)

/-- The attention branch. -/
def ya (c : Fin 1024) : EReal := ∑ k : Fin 256, R.att k * W.wao k c

/-- The gated linear unit's two halves. -/
def zg (c : Fin 2048) : EReal := ∑ k : Fin 512, R.s k * W.wglu k c

/-- The two branches, each by its gate. -/
def mixed (c : Fin 1024) : EReal :=
  sgm (R.ga c) * R.ya W c + sgm (R.gb c) * (R.zg W ⟨c, by omega⟩ * sgm (R.zg W ⟨1024 + c, by omega⟩))

/-- The row after the mixer. -/
def h (c : Fin 1024) : EReal := R.x c + ∑ k : Fin 1024, R.mixed W k * W.wout k c

/-- The row, normalised. -/
def hn (c : Fin 1024) : EReal :=
  R.h W c * Ideal.rsqrt (Ideal.div (∑ k : Fin 1024, R.h W k * R.h W k) (Ideal.ofBits .f32 0x44800000#32) + Ideal.ofBits .f32 0x358637BD#32) * W.nf c

end Row

end Cert.Merge

end
-- ==== Proof.MergeTile.lean ====
/- The merge kernel's body, read at an index. -/
module

public import proofs.«01_k».proof.Proof.Gen.MergeIdeal.Skeleton
public import proofs.«01_k».proof.Proof.MergeSpec
public import Idealize.ShloMosaic.Lib.Pointwise

@[expose] public section

set_option maxRecDepth 16384

noncomputable section

namespace Cert.MergeIdeal.Tile

open Idealize.ShloMosaic
open Cert.MergeIdeal Cert.MergeIdeal.Gen Cert.Merge

/-- A row of two head pairs, side by side. -/
def lanes (a b : FVec Ideal S1x512x128 .f32) (r : Fin 512) (k : Fin 256) : EReal :=
  if h : (k : ℕ) < 128 then a (ix3 0 r ⟨k, h⟩) else b (ix3 0 r ⟨k - 128, by omega⟩)

theorem pay3_at (a b : FVec Ideal S1x512x128 .f32) (r : Fin 512) (k : Fin 256) : k0_pay3 (F := Ideal) a b (ix2 r k) = lanes a b r k := by
  pointwise [k0_pay3, lanes]

theorem pay4_at (a b : FVec Ideal S1x512x128 .f32) (r : Fin 512) (k : Fin 256) : k0_pay4 (F := Ideal) a b (ix2 r k) = lanes a b r k := by
  pointwise [k0_pay4, lanes]

theorem pay5_at (a b : FVec Ideal S1x512x128 .f32) (r : Fin 512) (k : Fin 256) : k0_pay5 (F := Ideal) a b (ix2 r k) = lanes a b r k := by
  pointwise [k0_pay5, lanes]

theorem pay6_at (a b c d e f : FVec Ideal S1x512x128 .f32) (r : Fin 512) (k : Fin 256) :
    k0_pay6 (F := Ideal) a b c d e f (ix2 r k) = max (max (lanes a b r k) (lanes c d r k)) (lanes e f r k) := by
  pointwise [k0_pay6, pay3_at, pay4_at, pay5_at]

theorem pay7_at (a b c d e f : FVec Ideal S1x512x128 .f32) (r : Fin 512) (k : Fin 256) :
    k0_pay7 (F := Ideal) a b c d e f (ix2 r k) = Ideal.exp (lanes a b r k - max (max (lanes a b r k) (lanes c d r k)) (lanes e f r k)) := by
  pointwise [k0_pay7, pay6_at, pay3_at]

theorem pay8_at (a b c d e f : FVec Ideal S1x512x128 .f32) (r : Fin 512) (k : Fin 256) :
    k0_pay8 (F := Ideal) a b c d e f (ix2 r k) = Ideal.exp (lanes c d r k - max (max (lanes a b r k) (lanes c d r k)) (lanes e f r k)) := by
  pointwise [k0_pay8, pay6_at, pay4_at]

theorem pay9_at (a b c d e f : FVec Ideal S1x512x128 .f32) (r : Fin 512) (k : Fin 256) :
    k0_pay9 (F := Ideal) a b c d e f (ix2 r k) = Ideal.exp (lanes e f r k - max (max (lanes a b r k) (lanes c d r k)) (lanes e f r k)) := by
  pointwise [k0_pay9, pay6_at, pay5_at]

theorem pay10_at (a b c d e f u v : FVec Ideal S1x512x128 .f32) (r : Fin 512) (k : Fin 256) :
    k0_pay10 (F := Ideal) a b c d e f u v (ix2 r k) = k0_pay7 (F := Ideal) a b c d e f (ix2 r k) * lanes u v r k := by
  pointwise [k0_pay10, lanes]

/-- The two branches, at an index. -/
theorem pay12_at (e1 e2 e3 p1 : FVec Ideal S512x256 .f32) (a b c d : FVec Ideal S1x512x128 .f32)
    (wao : FVec Ideal S256x1024 .bf16) (s : FVec Ideal S512x512 .f32) (wglu : FVec Ideal S512x2048 .bf16)
    (ga gb : FVec Ideal S512x1024 .f32) (r : Fin 512) (q : Fin 1024) :
    k0_pay12 e1 e2 e3 p1 (k0_pay11 a) b c d wao s wglu ga gb (ix2 r q)
      = sgm (ga (ix2 r q)) * (∑ k : Fin 256, Ideal.div (p1 (ix2 r k) + e2 (ix2 r k) * lanes a b r k + e3 (ix2 r k) * lanes c d r k)
            (e1 (ix2 r k) + e2 (ix2 r k) + e3 (ix2 r k)) * wao (ix2 k q))
        + sgm (gb (ix2 r q)) * ((∑ k : Fin 512, s (ix2 r k) * wglu (ix2 k ⟨q, by omega⟩))
            * sgm (∑ k : Fin 512, s (ix2 r k) * wglu (ix2 k ⟨1024 + q, by omega⟩))) := by
  pointwise [k0_pay12, k0_pay11, lanes, logistic_eq]

/-- The row after the mixer, at an index. -/
theorem pay1_at (x : FVec Ideal S512x1024 .f32) (mx : FVec Ideal S512x1024 .bf16) (w : FVec Ideal S1024x1024 .bf16) (r : Fin 512) (q : Fin 1024) :
    k0_pay1 x mx w (ix2 r q) = x (ix2 r q) + ∑ k : Fin 1024, mx (ix2 r k) * w (ix2 k q) := by
  pointwise [k0_pay1]

/-- The row, normalised, at an index. -/
theorem pay2_at (x : FVec Ideal S512x1024 .f32) (mx : FVec Ideal S512x1024 .bf16) (w : FVec Ideal S1024x1024 .bf16) (nf : FVec Ideal S1x1024 .f32)
    (r : Fin 512) (q : Fin 1024) :
    k0_pay2 x mx w nf (ix2 r q) = k0_pay1 x mx w (ix2 r q)
      * Ideal.rsqrt (Ideal.div (∑ k : Fin 1024, k0_pay1 x mx w (ix2 r k) * k0_pay1 x mx w (ix2 r k)) (Ideal.ofBits .f32 0x44800000#32) + Ideal.ofBits .f32 0x358637BD#32)
      * nf (ix2 0 q) := by
  pointwise [k0_pay2]

/-- The two branches of a row, given what the loads hold of it. -/
theorem mixed_tile (R : Row) (W : Weights) (r : Fin 512) (q : Fin 1024)
    (l1a l1b l2a l2b l3a l3b o1a o1b o2a o2b o3a o3b : FVec Ideal S1x512x128 .f32)
    (wao : FVec Ideal S256x1024 .bf16) (s : FVec Ideal S512x512 .f32) (wglu : FVec Ideal S512x2048 .bf16) (ga gb : FVec Ideal S512x1024 .f32)
    (hl1 : ∀ k, lanes l1a l1b r k = R.l1 k) (hl2 : ∀ k, lanes l2a l2b r k = R.l2 k) (hl3 : ∀ k, lanes l3a l3b r k = R.l3 k)
    (ho1 : ∀ k, lanes o1a o1b r k = R.o1 k) (ho2 : ∀ k, lanes o2a o2b r k = R.o2 k) (ho3 : ∀ k, lanes o3a o3b r k = R.o3 k)
    (hs : ∀ k, s (ix2 r k) = R.s k) (hga : ∀ k, ga (ix2 r k) = R.ga k) (hgb : ∀ k, gb (ix2 r k) = R.gb k)
    (hwao : ∀ k q, wao (ix2 k q) = W.wao k q) (hwglu : ∀ k q, wglu (ix2 k q) = W.wglu k q) :
    k0_pay12 (F := Ideal) (k0_pay7 l1a l1b l2a l2b l3a l3b) (k0_pay8 l1a l1b l2a l2b l3a l3b) (k0_pay9 l1a l1b l2a l2b l3a l3b)
      (k0_pay10 l1a l1b l2a l2b l3a l3b o1a o1b) (k0_pay11 o2a) o2b o3a o3b wao s wglu ga gb (ix2 r q) = R.mixed W q := by
  rw [pay12_at]
  simp only [pay7_at, pay8_at, pay9_at, pay10_at, hl1, hl2, hl3, ho1, ho2, ho3, hs, hga, hgb, hwao, hwglu]
  rfl

end Cert.MergeIdeal.Tile

end
-- ==== Proof.MergeArrays.lean ====
/- The merge: its rows and weights, out of the whole arrays. -/
module

public import proofs.«01_k».proof.Proof.MergeSpec
public import Idealize.ShloMosaic.Lib.Pointwise

@[expose] public section

noncomputable section

namespace Cert.Merge

open Idealize.ShloMosaic

/-- Two head pairs' lanes of a row, side by side. -/
def pairs (t : FVec Ideal ⟨3, ![2, 16384, 128]⟩ .f32) (r : Fin 16384) (k : Fin 256) : EReal :=
  t (ix3 ⟨(k : ℕ) / 128, by omega⟩ r ⟨(k : ℕ) % 128, by omega⟩)

/-- Row `r` of the arrays. -/
def rowAt (x : FVec Ideal ⟨2, ![16384, 1024]⟩ .f32) (o1 o2 o3 l1 l2 l3 : FVec Ideal ⟨3, ![2, 16384, 128]⟩ .f32)
    (s : FVec Ideal ⟨2, ![16384, 512]⟩ .f32) (z : FVec Ideal ⟨2, ![16384, 5120]⟩ .f32) (r : Fin 16384) : Row where
  l1 := pairs l1 r
  l2 := pairs l2 r
  l3 := pairs l3 r
  o1 := pairs o1 r
  o2 := pairs o2 r
  o3 := pairs o3 r
  s k := s (ix2 r k)
  x q := x (ix2 r q)
  ga q := z (ix2 r ⟨3072 + q, by omega⟩)
  gb q := z (ix2 r ⟨4096 + q, by omega⟩)

/-- The weights, out of their arrays. -/
def weightsOf (wao : FVec Ideal ⟨2, ![256, 1024]⟩ .f32) (wglu : FVec Ideal ⟨2, ![512, 2048]⟩ .f32)
    (wout : FVec Ideal ⟨2, ![1024, 1024]⟩ .f32) (nf : FVec Ideal ⟨1, ![1024]⟩ .f32) : Weights where
  wao k q := wao (ix2 k q)
  wglu k q := wglu (ix2 k q)
  wout k q := wout (ix2 k q)
  nf q := nf (ix1 q)

end Cert.Merge

end
-- ==== Proof.MergeFinal.lean ====
/- The merge kernel's two output arrays are the rows after the mixer and the normalised rows. -/
module

public import proofs.«01_k».proof.Proof.Gen.MergeIdeal.Value
public import proofs.«01_k».proof.Proof.MergeTile
public import proofs.«01_k».proof.Proof.MergeArrays
public import Idealize.ShloMosaic.Lib.Pipeline.ValueKit
public import Idealize.ShloMosaic.Lib.Pointwise

@[expose] public section

set_option maxRecDepth 16384

noncomputable section

namespace Cert.MergeIdeal.Final

open Idealize.ShloMosaic Idealize.ShloMosaic.TcCoe Idealize.SL.Sem
open Cert.MergeIdeal Cert.MergeIdeal.Gen

variable (m : (ℓ : Loc nD τ sig) → Buf (Elt Ideal) ℓ)

/-- Row `r` of the arrays as launched. -/
abbrev row (c : Dev nD) (r : Fin 16384) : Cert.Merge.Row :=
  Cert.Merge.rowAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) r

/-- The weights as launched. -/
abbrev wts (c : Dev nD) : Cert.Merge.Weights :=
  Cert.Merge.weightsOf (m ((c : Thread nD τ).loc main_arg9)) (m ((c : Thread nD τ).loc main_arg10)) (m ((c : Thread nD τ).loc main_arg11)) (m ((c : Thread nD τ).loc main_arg12))

/-- Where each window's block lies, at every grid point. -/
theorem idx : ∀ t : Fin cfg0.N,
    win0_0.index t = ![t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0]
    ∧ win0_7.index t = ![t.val, 0] ∧ win0_8.index t = ![t.val, 3] ∧ win0_9.index t = ![t.val, 4]
    ∧ win0_10.index t = ![0, 0] ∧ win0_11.index t = ![0, 0] ∧ win0_12.index t = ![0, 0] ∧ win0_13.index t = ![0, 0]
    ∧ win0_14.index t = ![t.val, 0] ∧ win0_15.index t = ![t.val, 0] :=
  (by decide +kernel : ∀ t : Fin grid0.N, _)

/-- The row of the whole arrays that row `r` of a point's blocks is. -/
def gr (t : Fin cfg0.N) (r : Fin 512) : Fin 16384 := ⟨512 * t.val + r, by have : t.val < 32 := lt_of_lt_of_eq t.isLt N_0; omega⟩

theorem x_at (c : Dev nD) (t : Fin cfg0.N) (r : Fin 512) (q : Fin 1024) :
    View.ld (iblk m c 0 t) r0_5 (ix2 r q) = (row m c (gr t r)).x q := by
  unfold row Cert.Merge.rowAt gr
  pointwise
  blk_point [iblk, V, idx t]

theorem l1_at (c : Dev nD) (t : Fin cfg0.N) (r : Fin 512) (k : Fin 256) :
    Tile.lanes (View.ld (iblk m c 4 t) r0_0) (View.ld (iblk m c 4 t) r0_1) r k = (row m c (gr t r)).l1 k := by
  unfold row Cert.Merge.rowAt Cert.Merge.pairs gr Tile.lanes
  split
  all_goals (pointwise; blk_point [iblk, V, idx t])

theorem l2_at (c : Dev nD) (t : Fin cfg0.N) (r : Fin 512) (k : Fin 256) :
    Tile.lanes (View.ld (iblk m c 5 t) r0_0) (View.ld (iblk m c 5 t) r0_1) r k = (row m c (gr t r)).l2 k := by
  unfold row Cert.Merge.rowAt Cert.Merge.pairs gr Tile.lanes
  split
  all_goals (pointwise; blk_point [iblk, V, idx t])

theorem l3_at (c : Dev nD) (t : Fin cfg0.N) (r : Fin 512) (k : Fin 256) :
    Tile.lanes (View.ld (iblk m c 6 t) r0_0) (View.ld (iblk m c 6 t) r0_1) r k = (row m c (gr t r)).l3 k := by
  unfold row Cert.Merge.rowAt Cert.Merge.pairs gr Tile.lanes
  split
  all_goals (pointwise; blk_point [iblk, V, idx t])

theorem o1_at (c : Dev nD) (t : Fin cfg0.N) (r : Fin 512) (k : Fin 256) :
    Tile.lanes (View.ld (iblk m c 1 t) r0_0) (View.ld (iblk m c 1 t) r0_1) r k = (row m c (gr t r)).o1 k := by
  unfold row Cert.Merge.rowAt Cert.Merge.pairs gr Tile.lanes
  split
  all_goals (pointwise; blk_point [iblk, V, idx t])

theorem o2_at (c : Dev nD) (t : Fin cfg0.N) (r : Fin 512) (k : Fin 256) :
    Tile.lanes (View.ld (iblk m c 2 t) r0_0) (View.ld (iblk m c 2 t) r0_1) r k = (row m c (gr t r)).o2 k := by
  unfold row Cert.Merge.rowAt Cert.Merge.pairs gr Tile.lanes
  split
  all_goals (pointwise; blk_point [iblk, V, idx t])

theorem o3_at (c : Dev nD) (t : Fin cfg0.N) (r : Fin 512) (k : Fin 256) :
    Tile.lanes (View.ld (iblk m c 3 t) r0_0) (View.ld (iblk m c 3 t) r0_1) r k = (row m c (gr t r)).o3 k := by
  unfold row Cert.Merge.rowAt Cert.Merge.pairs gr Tile.lanes
  split
  all_goals (pointwise; blk_point [iblk, V, idx t])

theorem s_at (c : Dev nD) (t : Fin cfg0.N) (r : Fin 512) (k : Fin 512) :
    View.ld (iblk m c 7 t) r0_3 (ix2 r k) = (row m c (gr t r)).s k := by
  unfold row Cert.Merge.rowAt gr
  pointwise
  blk_point [iblk, V, idx t]

theorem ga_at (c : Dev nD) (t : Fin cfg0.N) (r : Fin 512) (k : Fin 1024) :
    View.ld (iblk m c 8 t) r0_5 (ix2 r k) = (row m c (gr t r)).ga k := by
  unfold row Cert.Merge.rowAt gr
  pointwise
  blk_point [iblk, V, idx t]

theorem gb_at (c : Dev nD) (t : Fin cfg0.N) (r : Fin 512) (k : Fin 1024) :
    View.ld (iblk m c 9 t) r0_5 (ix2 r k) = (row m c (gr t r)).gb k := by
  unfold row Cert.Merge.rowAt gr
  pointwise
  blk_point [iblk, V, idx t]

theorem wao_at (c : Dev nD) (t : Fin cfg0.N) (k : Fin 256) (q : Fin 1024) :
    View.ld (iblk m c 10 t) r0_2 (ix2 k q) = (wts m c).wao k q := by
  unfold wts Cert.Merge.weightsOf
  pointwise
  blk_simp [iblk]
  entry_read
  pointwise
  blk_point [idx t]

theorem wglu_at (c : Dev nD) (t : Fin cfg0.N) (k : Fin 512) (q : Fin 2048) :
    View.ld (iblk m c 11 t) r0_4 (ix2 k q) = (wts m c).wglu k q := by
  unfold wts Cert.Merge.weightsOf
  pointwise
  blk_simp [iblk]
  entry_read
  pointwise
  blk_point [idx t]

theorem wout_at (c : Dev nD) (t : Fin cfg0.N) (k : Fin 1024) (q : Fin 1024) :
    View.ld (iblk m c 12 t) r0_6 (ix2 k q) = (wts m c).wout k q := by
  unfold wts Cert.Merge.weightsOf
  pointwise
  blk_simp [iblk]
  entry_read
  pointwise
  blk_point [idx t]

theorem nf_at (c : Dev nD) (t : Fin cfg0.N) (q : Fin 1024) :
    View.ld (iblk m c 13 t) r0_7 (ix2 0 q) = (wts m c).nf q := by
  unfold wts Cert.Merge.weightsOf
  pointwise
  blk_simp [iblk]
  entry_read
  pointwise
  blk_point [idx t]

/-- The gated sum of the two branches, for a row of a point's blocks. -/
theorem mixed_at (c : Dev nD) (t : Fin cfg0.N) (r : Fin 512) (q : Fin 1024) :
    k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q)
      = (row m c (gr t r)).mixed (wts m c) q := by
  unfold k0_pay13
  exact Tile.mixed_tile _ _ r q _ _ _ _ _ _ _ _ _ _ _ _ _ _ _ _ _ (l1_at m c t r) (l2_at m c t r) (l3_at m c t r) (o1_at m c t r) (o2_at m c t r) (o3_at m c t r)
    (s_at m c t r) (ga_at m c t r) (gb_at m c t r) (wao_at m c t) (wglu_at m c t)

/-- The row after the mixer, for a row of a point's blocks. -/
theorem h_at (c : Dev nD) (t : Fin cfg0.N) (r : Fin 512) (q : Fin 1024) :
    k0_pay1 (View.ld (iblk m c 0 t) r0_5) (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
        (View.ld (iblk m c 12 t) r0_6) (ix2 r q)
      = (row m c (gr t r)).h (wts m c) q :=
  (Tile.pay1_at _ _ _ r q).trans (congrArg₂ (· + ·) (x_at m c t r q)
    (Finset.sum_congr rfl fun k _ => congrArg₂ (· * ·) (mixed_at m c t r k) (wout_at m c t k q)))

/-- The normalised row, for a row of a point's blocks. -/
theorem hn_at (c : Dev nD) (t : Fin cfg0.N) (r : Fin 512) (q : Fin 1024) :
    k0_pay2 (View.ld (iblk m c 0 t) r0_5) (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
        (View.ld (iblk m c 12 t) r0_6) (View.ld (iblk m c 13 t) r0_7) (ix2 r q)
      = (row m c (gr t r)).hn (wts m c) q :=
  (Tile.pay2_at _ _ _ _ r q).trans (congrArg₂ (· * ·) (congrArg₂ (· * ·) (h_at m c t r q)
    (congrArg (fun s => Ideal.rsqrt (Ideal.div s (Ideal.ofBits .f32 0x44800000#32) + Ideal.ofBits .f32 0x358637BD#32))
      (Finset.sum_congr rfl fun k _ => congrArg₂ (· * ·) (h_at m c t r k) (h_at m c t r k)))) (nf_at m c t q))

/-- What a grid point leaves in the first output's block. -/
theorem point_h (c : Dev nD) (t : Fin cfg0.N) (y : S512x1024.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (row m c (gr t (y 0))).h (wts m c) (y 1) := by
  unfold out0_14
  canon_tiles x h
  have hx : x = ix2 (x 0) (x 1) := eq_ix2 x
  have e0 : y 0 = x 0 := Fin.ext (by omega)
  have e1 : y 1 = x 1 := Fin.ext (by omega)
  rw [e0, e1, hx]
  exact h_at m c t (x 0) (x 1)

/-- The first output array after the run. -/
theorem final_h (c : Dev nD) :
    (dats m 0 c).arrAt 14 (cfgs 0).N = fun j : S16384x1024.Idx => (row m c (j 0)).h (wts m c) (j 1) := by
  refine (dats m 0 c).arrAt_eq_of_covers 14 _ (by decide +kernel) fun t _ y => ?_
  blk_simp
  rw [after0_14, point_h m c t y]
  have e := (idx t).2.2.2.2.2.2.2.2.2.2.2.2.2.2.1
  exact congrArg₂ (fun a b => (row m c a).h (wts m c) b) (Fin.ext (by unfold gr; blk_simp [e]; exact congrArg (· + _) (Nat.mul_comm _ _))) (Fin.ext (by blk_simp [e]))

/-- What a grid point leaves in the second output's block. -/
theorem point_hn (c : Dev nD) (t : Fin cfg0.N) (y : S512x1024.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = (row m c (gr t (y 0))).hn (wts m c) (y 1) := by
  unfold out0_15
  canon_tiles x h
  have hx : x = ix2 (x 0) (x 1) := eq_ix2 x
  have e0 : y 0 = x 0 := Fin.ext (by omega)
  have e1 : y 1 = x 1 := Fin.ext (by omega)
  rw [e0, e1, hx]
  exact hn_at m c t (x 0) (x 1)

/-- The second output array after the run. -/
theorem final_hn (c : Dev nD) :
    (dats m 0 c).arrAt 15 (cfgs 0).N = fun j : S16384x1024.Idx => (row m c (j 0)).hn (wts m c) (j 1) := by
  refine (dats m 0 c).arrAt_eq_of_covers 15 _ (by decide +kernel) fun t _ y => ?_
  blk_simp
  rw [after0_15, point_hn m c t y]
  have e := (idx t).2.2.2.2.2.2.2.2.2.2.2.2.2.2.2
  exact congrArg₂ (fun a b => (row m c a).hn (wts m c) b) (Fin.ext (by unfold gr; blk_simp [e]; exact congrArg (· + _) (Nat.mul_comm _ _))) (Fin.ext (by blk_simp [e]))

end Cert.MergeIdeal.Final

end
-- ==== Proof.MergeRef.lean ====
/- The reference of the merge, read at an index: its results are the rows' of the specification. -/
module

public import proofs.«01_k».proof.Proof.Gen.MergeRefIdeal.Read
public import proofs.«01_k».proof.Proof.MergeArrays

@[expose] public section

set_option maxRecDepth 16384

noncomputable section

namespace Cert.MergeRefIdeal.Rows

open Idealize.ShloMosaic
open Cert.MergeRefIdeal Cert.MergeRefIdeal.Gen Cert.MergeRefIdeal.Read
open Cert.Merge (Row Weights pairs rowAt weightsOf sgm mix)

abbrev P := FVec Ideal S2x16384x128 .f32

/-- Two pairs of heads, laid side by side in a row. -/
theorem pairs_at (t : P) (r : Fin 16384) (k : Fin 256) : val_main_v1 (F := Ideal) t (ix2 r k) = pairs t r k := by
  unfold val_main_v1
  rw [shapeCast_apply _ shapeCasts_S16384x2x128_S16384x256 (ix2 r k) (ix3 r ⟨k.val / 128, by omega⟩ ⟨k.val % 128, by omega⟩) (by
    rewrite [Shape.rowMajor_val_three, Shape.rowMajor_val_two]
    show (r.val * 2 + k.val / 128) * 128 + k.val % 128 = r.val * 256 + k.val
    omega), val_main_v0_apply]
  exact congrArg t (eq_ix3 _)

/-- The stack of the three groups' rows. -/
def pick (a b c : EReal) (k : Fin 3) : EReal := if (k : ℕ) = 0 then a else if (k : ℕ) = 1 then b else c

theorem v15_at (l1 l2 l3 : P) (k : Fin 3) (r : Fin 16384) (j : Fin 256) :
    val_main_v15 (F := Ideal) l1 l2 l3 (ix3 k r j) = pick (pairs l1 r j) (pairs l2 r j) (pairs l3 r j) k := by
  pointwise [val_main_v15, val_main_v12, val_main_v13, val_main_v14]
  unfold pick
  split
  · rw [if_pos (by omega)]
    exact pairs_at l1 r j
  · rw [if_neg (by omega)]
    split
    · rw [if_pos (by omega)]
      exact pairs_at l2 r j
    · rw [if_neg (by omega)]
      exact pairs_at l3 r j

theorem v30_at (l1 l2 l3 : P) (k : Fin 3) (r : Fin 16384) (j : Fin 256) :
    val_main_v30 (F := Ideal) l1 l2 l3 (ix3 k r j) = pick (pairs l1 r j) (pairs l2 r j) (pairs l3 r j) k :=
  v15_at l1 l2 l3 k r j

theorem neg_inf : Ideal.ofBits .f32 0xFF800000#32 = ⊥ := by simp [Ideal.ofBits, Ideal.ieee]

theorem zero_lit : Ideal.ofBits .f32 0x00000000#32 = 0 := by simp [Ideal.ofBits, Ideal.ieee]

theorem one_lit : Ideal.ofBits .f32 0x3F800000#32 = 1 := by
  simp [Ideal.ofBits, Ideal.ieee, -EReal.coe_mul]
  norm_num

/-- The largest log-sum-exp. -/
theorem v16_at (l1 l2 l3 : P) (r : Fin 16384) (j : Fin 256) :
    val_main_v16 (F := Ideal) l1 l2 l3 (ix2 r j) = max (max (pairs l1 r j) (pairs l2 r j)) (pairs l3 r j) := by
  pointwise [val_main_v16, v15_at, val_main_cst]
  rw [neg_inf, Cert.Merge.fold_three]
  rfl

theorem v18_at (l1 l2 l3 : P) (r : Fin 16384) (j : Fin 256) :
    val_main_v18 (F := Ideal) l1 l2 l3 (ix2 r j) = max (max (pairs l1 r j) (pairs l2 r j)) (pairs l3 r j) := by
  rw [val_main_v18_apply, v16_at, val_main_v17_apply]
  exact (congrArg (max · _) neg_inf).trans (max_eq_right bot_le)

theorem v20_at (l1 l2 l3 : P) (k : Fin 3) (r : Fin 16384) (j : Fin 256) :
    val_main_v20 (F := Ideal) l1 l2 l3 (ix3 k r j) = max (max (pairs l1 r j) (pairs l2 r j)) (pairs l3 r j) := by
  rw [val_main_v20_apply, val_main_v19_apply]
  exact (congrArg (val_main_v18 (F := Ideal) l1 l2 l3) (eq_ix2 _)).trans (v18_at l1 l2 l3 r j)

/-- The exponentials. -/
theorem v22_at (l1 l2 l3 : P) (k : Fin 3) (r : Fin 16384) (j : Fin 256) :
    val_main_v22 (F := Ideal) l1 l2 l3 (ix3 k r j)
      = Ideal.exp (pick (pairs l1 r j) (pairs l2 r j) (pairs l3 r j) k - max (max (pairs l1 r j) (pairs l2 r j)) (pairs l3 r j)) := by
  rw [val_main_v22_apply, val_main_v21_apply, v15_at, v20_at]
  rfl

/-- Their total. -/
theorem v23_at (l1 l2 l3 : P) (r : Fin 16384) (j : Fin 256) :
    val_main_v23 (F := Ideal) l1 l2 l3 (ix2 r j)
      = Ideal.exp (pairs l1 r j - max (max (pairs l1 r j) (pairs l2 r j)) (pairs l3 r j))
        + Ideal.exp (pairs l2 r j - max (max (pairs l1 r j) (pairs l2 r j)) (pairs l3 r j))
        + Ideal.exp (pairs l3 r j - max (max (pairs l1 r j) (pairs l2 r j)) (pairs l3 r j)) := by
  rw [val_main_v23_apply, show val_main_cst_1 (F := Ideal) (Shape.Idx.first h_S_) = 0 from zero_lit, zero_add, Fin.sum_univ_three]
  exact congrArg₂ (· + ·) (congrArg₂ (· + ·)
    ((congrArg (val_main_v22 (F := Ideal) l1 l2 l3) (eq_ix3 _)).trans (v22_at l1 l2 l3 0 r j))
    ((congrArg (val_main_v22 (F := Ideal) l1 l2 l3) (eq_ix3 _)).trans (v22_at l1 l2 l3 1 r j)))
    ((congrArg (val_main_v22 (F := Ideal) l1 l2 l3) (eq_ix3 _)).trans (v22_at l1 l2 l3 2 r j))

theorem v25_at (l1 l2 l3 : P) (k : Fin 3) (r : Fin 16384) (j : Fin 256) :
    val_main_v25 (F := Ideal) l1 l2 l3 (ix3 k r j) = val_main_v23 (F := Ideal) l1 l2 l3 (ix2 r j) := by
  rw [val_main_v25_apply, val_main_v24_apply]
  exact congrArg (val_main_v23 (F := Ideal) l1 l2 l3) (eq_ix2 _)

/-- A weighted output. -/
theorem v31_at (o1 o2 o3 l1 l2 l3 : P) (k : Fin 3) (r : Fin 16384) (j : Fin 256) :
    val_main_v31 (F := Ideal) o1 o2 o3 l1 l2 l3 (ix3 k r j)
      = Ideal.div (Ideal.exp (pick (pairs l1 r j) (pairs l2 r j) (pairs l3 r j) k - max (max (pairs l1 r j) (pairs l2 r j)) (pairs l3 r j)))
          (Ideal.exp (pairs l1 r j - max (max (pairs l1 r j) (pairs l2 r j)) (pairs l3 r j))
            + Ideal.exp (pairs l2 r j - max (max (pairs l1 r j) (pairs l2 r j)) (pairs l3 r j))
            + Ideal.exp (pairs l3 r j - max (max (pairs l1 r j) (pairs l2 r j)) (pairs l3 r j)))
        * pick (pairs o1 r j) (pairs o2 r j) (pairs o3 r j) k := by
  rw [val_main_v31_apply, val_main_v26_apply, v22_at, v25_at, v23_at, v30_at]
  rfl

/-- The mixed outputs. -/
theorem v32_at (o1 o2 o3 l1 l2 l3 : P) (r : Fin 16384) (j : Fin 256)
    (h1 : ∃ a : ℝ, pairs l1 r j = a) (h2 : ∃ a : ℝ, pairs l2 r j = a) (h3 : ∃ a : ℝ, pairs l3 r j = a) :
    val_main_v32 (F := Ideal) o1 o2 o3 l1 l2 l3 (ix2 r j)
      = mix (pairs l1 r j) (pairs l2 r j) (pairs l3 r j) (pairs o1 r j) (pairs o2 r j) (pairs o3 r j) := by
  rw [val_main_v32_apply, show val_main_cst_2 (F := Ideal) (Shape.Idx.first h_S_) = 0 from zero_lit, zero_add, Fin.sum_univ_three,
    ← Cert.Merge.mix_eq h1 h2 h3]
  exact congrArg₂ (· + ·) (congrArg₂ (· + ·)
    ((congrArg (val_main_v31 (F := Ideal) o1 o2 o3 l1 l2 l3) (eq_ix3 _)).trans (v31_at o1 o2 o3 l1 l2 l3 0 r j))
    ((congrArg (val_main_v31 (F := Ideal) o1 o2 o3 l1 l2 l3) (eq_ix3 _)).trans (v31_at o1 o2 o3 l1 l2 l3 1 r j)))
    ((congrArg (val_main_v31 (F := Ideal) o1 o2 o3 l1 l2 l3) (eq_ix3 _)).trans (v31_at o1 o2 o3 l1 l2 l3 2 r j))

variable (x : FVec Ideal S16384x1024 .f32) (o1 o2 o3 l1 l2 l3 : P) (s : FVec Ideal S16384x512 .f32) (z : FVec Ideal S16384x5120 .f32)
  (wao : FVec Ideal S256x1024 .f32) (wglu : FVec Ideal S512x2048 .f32) (wout : FVec Ideal S1024x1024 .f32) (nf : FVec Ideal S1024 .f32)

/-- The gated linear unit's halves. -/
theorem v33_at (r : Fin 16384) (q : Fin 2048) :
    val_main_v33 (F := Ideal) s wglu (ix2 r q) = ∑ k : Fin 512, s (ix2 r k) * wglu (ix2 k q) := by
  rw [val_main_v33_apply]
  exact Finset.sum_congr rfl fun k _ => congrArg₂ (· * ·) (congrArg s (eq_ix2 _)) (congrArg wglu (eq_ix2 _))

theorem v34_at (r : Fin 16384) (q : Fin 1024) :
    val_main_v34 (F := Ideal) s wglu (ix2 r q) = ∑ k : Fin 512, s (ix2 r k) * wglu (ix2 k ⟨q, by omega⟩) := by
  rw [val_main_v34_apply]
  exact (congrArg (val_main_v33 (F := Ideal) s wglu) (eq_ix2 _)).trans (v33_at s wglu r ⟨q, by omega⟩)

theorem v35_at (r : Fin 16384) (q : Fin 1024) :
    val_main_v35 (F := Ideal) s wglu (ix2 r q) = ∑ k : Fin 512, s (ix2 r k) * wglu (ix2 k ⟨1024 + q, by omega⟩) := by
  rw [val_main_v35_apply]
  exact (congrArg (val_main_v33 (F := Ideal) s wglu) (eq_ix2 _)).trans (v33_at s wglu r ⟨1024 + q, by omega⟩)

theorem v41_at (r : Fin 16384) (q : Fin 1024) :
    val_main_v41 (F := Ideal) s wglu (ix2 r q) = sgm (val_main_v35 (F := Ideal) s wglu (ix2 r q)) := by
  rw [val_main_v41_apply, val_main_v40_apply, val_main_v39_apply, val_main_v38_apply, val_main_v37_apply, val_main_v36_apply]
  unfold sgm
  exact congrArg₂ Ideal.div one_lit (congrArg (· + _) one_lit)

theorem v51_at (r : Fin 16384) (q : Fin 1024) :
    val_main_v51 (F := Ideal) z (ix2 r q) = sgm (z (ix2 r ⟨3072 + q, by omega⟩)) := by
  rw [val_main_v51_apply, val_main_v50_apply, val_main_v49_apply, val_main_v48_apply, val_main_v47_apply, val_main_v46_apply, val_main_v43_apply]
  unfold sgm
  exact congrArg₂ Ideal.div one_lit (congrArg₂ (· + ·) one_lit (congrArg (fun i => Ideal.exp (-(z i))) (eq_ix2 _)))

theorem v58_at (r : Fin 16384) (q : Fin 1024) :
    val_main_v58 (F := Ideal) z (ix2 r q) = sgm (z (ix2 r ⟨4096 + q, by omega⟩)) := by
  rw [val_main_v58_apply, val_main_v57_apply, val_main_v56_apply, val_main_v55_apply, val_main_v54_apply, val_main_v53_apply, val_main_v44_apply]
  unfold sgm
  exact congrArg₂ Ideal.div one_lit (congrArg₂ (· + ·) one_lit (congrArg (fun i => Ideal.exp (-(z i))) (eq_ix2 _)))

/-- Every log-sum-exp is a real. -/
def Real3 : Prop := ∀ r j, (∃ a : ℝ, pairs l1 r j = a) ∧ (∃ a : ℝ, pairs l2 r j = a) ∧ (∃ a : ℝ, pairs l3 r j = a)

variable (hl : Real3 l1 l2 l3)
include hl

/-- The attention branch. -/
theorem v45_at (r : Fin 16384) (q : Fin 1024) :
    val_main_v45 (F := Ideal) o1 o2 o3 l1 l2 l3 wao (ix2 r q) = (rowAt x o1 o2 o3 l1 l2 l3 s z r).ya (weightsOf wao wglu wout nf) q := by
  rw [val_main_v45_apply]
  exact Finset.sum_congr rfl fun k _ => congrArg₂ (· * ·)
    ((congrArg (val_main_v32 (F := Ideal) o1 o2 o3 l1 l2 l3) (eq_ix2 _)).trans (v32_at o1 o2 o3 l1 l2 l3 r k (hl r k).1 (hl r k).2.1 (hl r k).2.2))
    (congrArg wao (eq_ix2 _))

/-- The two branches, gated. -/
theorem v60_at (r : Fin 16384) (q : Fin 1024) :
    val_main_v60 (F := Ideal) o1 o2 o3 l1 l2 l3 s z wao wglu (ix2 r q)
      = (rowAt x o1 o2 o3 l1 l2 l3 s z r).mixed (weightsOf wao wglu wout nf) q := by
  rw [val_main_v60_apply, val_main_v52_apply, val_main_v59_apply, val_main_v42_apply, v51_at, v58_at, v41_at, v34_at, v35_at,
    v45_at x o1 o2 o3 l1 l2 l3 s z wao wglu wout nf hl]
  rfl

/-- The first result. -/
theorem v62_at (r : Fin 16384) (q : Fin 1024) :
    val_main_v62 (F := Ideal) x o1 o2 o3 l1 l2 l3 s z wao wglu wout (ix2 r q)
      = (rowAt x o1 o2 o3 l1 l2 l3 s z r).h (weightsOf wao wglu wout nf) q := by
  rw [val_main_v62_apply, val_main_v61_apply]
  exact congrArg (x (ix2 r q) + ·) (Finset.sum_congr rfl fun k _ => congrArg₂ (· * ·)
    ((congrArg (val_main_v60 (F := Ideal) o1 o2 o3 l1 l2 l3 s z wao wglu) (eq_ix2 _)).trans (v60_at x o1 o2 o3 l1 l2 l3 s z wao wglu wout nf hl r k))
    (congrArg wout (eq_ix2 _)))

/-- The sum of the row's squares. -/
theorem v64_at (r : Fin 16384) :
    val_main_v64 (F := Ideal) x o1 o2 o3 l1 l2 l3 s z wao wglu wout (ix1 r)
      = ∑ k : Fin 1024, (rowAt x o1 o2 o3 l1 l2 l3 s z r).h (weightsOf wao wglu wout nf) k * (rowAt x o1 o2 o3 l1 l2 l3 s z r).h (weightsOf wao wglu wout nf) k := by
  rw [val_main_v64_apply, show val_main_cst_9 (F := Ideal) (Shape.Idx.first h_S_) = 0 from zero_lit, zero_add]
  refine Finset.sum_congr rfl fun k _ => ?_
  refine (congrArg (val_main_v63 (F := Ideal) x o1 o2 o3 l1 l2 l3 s z wao wglu wout) (eq_ix2 _)).trans ?_
  rw [val_main_v63_apply]
  exact congrArg₂ (· * ·) (v62_at x o1 o2 o3 l1 l2 l3 s z wao wglu wout nf hl r k) (v62_at x o1 o2 o3 l1 l2 l3 s z wao wglu wout nf hl r k)

/-- The reciprocal of the root of the mean square. -/
theorem v70_at (r : Fin 16384) :
    val_main_v70 (F := Ideal) x o1 o2 o3 l1 l2 l3 s z wao wglu wout (ix2 r 0)
      = Ideal.rsqrt (Ideal.div (∑ k : Fin 1024, (rowAt x o1 o2 o3 l1 l2 l3 s z r).h (weightsOf wao wglu wout nf) k
          * (rowAt x o1 o2 o3 l1 l2 l3 s z r).h (weightsOf wao wglu wout nf) k) (Ideal.ofBits .f32 0x44800000#32) + Ideal.ofBits .f32 0x358637BD#32) := by
  rw [val_main_v70_apply, val_main_v69_apply, val_main_v68_apply, val_main_v67_apply, val_main_v66_apply, val_main_v65_apply]
  exact congrArg (fun w => Ideal.rsqrt (Ideal.div w (Ideal.ofBits .f32 0x44800000#32) + Ideal.ofBits .f32 0x358637BD#32))
    ((congrArg (val_main_v64 (F := Ideal) x o1 o2 o3 l1 l2 l3 s z wao wglu wout) (eq_ix1 _)).trans (v64_at x o1 o2 o3 l1 l2 l3 s z wao wglu wout nf hl r))

/-- The second result. -/
theorem v76_at (r : Fin 16384) (q : Fin 1024) :
    val_main_v76 (F := Ideal) x o1 o2 o3 l1 l2 l3 s z wao wglu wout nf (ix2 r q)
      = (rowAt x o1 o2 o3 l1 l2 l3 s z r).hn (weightsOf wao wglu wout nf) q := by
  rw [val_main_v76_apply, val_main_v75_apply, val_main_v72_apply, val_main_v71_apply, val_main_v74_apply, val_main_v73_apply]
  exact congrArg₂ (· * ·) (congrArg₂ (· * ·) (v62_at x o1 o2 o3 l1 l2 l3 s z wao wglu wout nf hl r q)
    ((congrArg (val_main_v70 (F := Ideal) x o1 o2 o3 l1 l2 l3 s z wao wglu wout) (eq_ix2 _)).trans (v70_at x o1 o2 o3 l1 l2 l3 s z wao wglu wout nf hl r)))
    (congrArg nf (eq_ix1 _))

end Cert.MergeRefIdeal.Rows

end
-- ==== Proof.MergeClaim.lean ====
/- The merge: the frames and the value claim, put together from the two sides' values. -/
module

public import proofs.«01_k».proof.Defs
public import proofs.«01_k».proof.Proof.Real
public import proofs.«01_k».proof.Proof.MergeFinal
public import proofs.«01_k».proof.Proof.MergeRef
public import proofs.«01_k».proof.Proof.Gen.Merge.Frame
public import proofs.«01_k».proof.Proof.Gen.MergeRefIdeal.Run
public import proofs.«01_k».proof.Proof.Gen.Pre_finite_lses

@[expose] public section

noncomputable section

namespace Cert.Proof.Merge

open Idealize.ShloMosaic Idealize.SL.Sem

/-- The kernel runs and leaves its arguments as they were. -/
theorem frame_p : Cert.quiescent_Merge := fun m ρ _ => Cert.Merge.Gen.frame m ρ

/-- So does the idealized kernel. -/
theorem frame_pi : Cert.quiescent_MergeIdeal := fun m ρ _ => Cert.MergeIdeal.Gen.frame m ρ

theorem frame_pi_pre : Cert.quiescent_MergeIdeal_pre_finite_lses := fun m ρ _ => Cert.MergeIdeal.Gen.frame m ρ

/-- The reference runs and leaves its arguments as they were. -/
theorem frame_ri : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

theorem frame_ri_pre : Cert.quiescent_MergeRefIdeal_pre_finite_lses := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- The kernel and its idealization are one text. -/
theorem preserves : Cert.preserves_Merge_MergeIdeal := trivial

/-- The precondition says that every log-sum-exp is a real. -/
theorem real_of_pre (m : (ℓ : Loc Cert.MergeIdeal.nD Cert.MergeIdeal.τ Cert.MergeIdeal.sig) → Buf (Elt Ideal) ℓ)
    (h : Cert.Pre_MergeIdeal_finite_lses m) (c : Dev Cert.MergeIdeal.nD) :
    Cert.MergeRefIdeal.Rows.Real3 (m ((c.tc : Thread Cert.MergeIdeal.nD Cert.MergeIdeal.τ).loc Cert.MergeIdeal.main_arg4))
      (m ((c.tc : Thread Cert.MergeIdeal.nD Cert.MergeIdeal.τ).loc Cert.MergeIdeal.main_arg5))
      (m ((c.tc : Thread Cert.MergeIdeal.nD Cert.MergeIdeal.τ).loc Cert.MergeIdeal.main_arg6)) := by
  obtain ⟨h1, h2, h3⟩ := h c
  exact fun r j => ⟨real_of_word _ (congrFun h1 (ix3 _ _ _)), real_of_word _ (congrFun h2 (ix3 _ _ _)), real_of_word _ (congrFun h3 (ix3 _ _ _))⟩

/-- The idealized kernel and the reference end with the same rows after the mixer and the same normalised rows, for real log-sum-exps. -/
theorem algebraic : Cert.algebraic_MergeIdeal_MergeRefIdeal_pre_finite_lses := by
  intro m g m' g' hpre hagree
  refine ⟨fun c => (fun j : Cert.MergeIdeal.S16384x1024.Idx => (Cert.MergeIdeal.Final.row m c (j 0)).h (Cert.MergeIdeal.Final.wts m c) (j 1)),
    fun c => (fun j : Cert.MergeIdeal.S16384x1024.Idx => (Cert.MergeIdeal.Final.row m c (j 0)).hn (Cert.MergeIdeal.Final.wts m c) (j 1)), ?_, ?_⟩
  · refine (θ_run Cert.MergeIdeal.defs _ _).mono (fun r h c => ⟨(h c).1.trans ?_, (h c).2.1.trans ?_, (h c).2.2⟩)
      (Cert.MergeIdeal.Value.run_blocks (F := Ideal) m g)
    · exact Cert.MergeIdeal.Final.final_h m c
    · exact Cert.MergeIdeal.Final.final_hn m c
  · refine (θ_run Cert.MergeRefIdeal.defs _ _).mono (fun r h c => ⟨(h c).1.trans ?_, (h c).2.1.trans ?_, (h c).2.2⟩)
      (Cert.MergeRefIdeal.Value.run (F := Ideal) m' g')
    · obtain ⟨e0, e1, e2, e3, e4, e5, e6, e7, e8, e9, e10, e11, e12⟩ := hagree c
      refine (Cert.MergeRefIdeal.Read.val_main_v62_eq m' c).trans ?_
      rw [e0, e1, e2, e3, e4, e5, e6, e7, e8, e9, e10, e11]
      exact funext fun j => (congrArg (Cert.MergeRefIdeal.Read.val_main_v62 (F := Ideal) _ _ _ _ _ _ _ _ _ _ _ _) (eq_ix2 j)).trans
        (Cert.MergeRefIdeal.Rows.v62_at _ _ _ _ _ _ _ _ _ _ _ _ _ (real_of_pre m hpre c) (j 0) (j 1))
    · obtain ⟨e0, e1, e2, e3, e4, e5, e6, e7, e8, e9, e10, e11, e12⟩ := hagree c
      refine (Cert.MergeRefIdeal.Read.val_main_v76_eq m' c).trans ?_
      rw [e0, e1, e2, e3, e4, e5, e6, e7, e8, e9, e10, e11, e12]
      exact funext fun j => (congrArg (Cert.MergeRefIdeal.Read.val_main_v76 (F := Ideal) _ _ _ _ _ _ _ _ _ _ _ _ _) (eq_ix2 j)).trans
        (Cert.MergeRefIdeal.Rows.v76_at _ _ _ _ _ _ _ _ _ _ _ _ _ (real_of_pre m hpre c) (j 0) (j 1))

end Cert.Proof.Merge

end
-- ==== Proof.lean ====
/- The certificate: every claim of Defs.lean, each proved in a module of its own. -/
module

public import proofs.«01_k».proof.Defs
public import proofs.«01_k».proof.Proof.Gen.Band1
public import proofs.«01_k».proof.Proof.Gen.Band1.Skeleton
public import proofs.«01_k».proof.Proof.Gen.Band1.Launch
public import proofs.«01_k».proof.Proof.Gen.Band1.Points
public import proofs.«01_k».proof.Proof.Gen.Band1.Frame
public import proofs.«01_k».proof.Proof.Gen.Band1Ideal
public import proofs.«01_k».proof.Proof.Gen.Band1Ideal.Skeleton
public import proofs.«01_k».proof.Proof.Gen.Band1Ideal.Launch
public import proofs.«01_k».proof.Proof.Gen.Band1Ideal.Points
public import proofs.«01_k».proof.Proof.Gen.Band1Ideal.Frame
public import proofs.«01_k».proof.Proof.Gen.Band1Ideal.Value
public import proofs.«01_k».proof.Proof.Gen.Band1RefIdeal
public import proofs.«01_k».proof.Proof.Gen.Band1RefIdeal.Run
public import proofs.«01_k».proof.Proof.Gen.Band1RefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Pre_finite_z
public import proofs.«01_k».proof.Proof.Gen.Pre_finite_inputs
public import proofs.«01_k».proof.Proof.Gen.Pre_finite_lses
public import proofs.«01_k».proof.Proof.Band1Claim
public import proofs.«01_k».proof.Proof.InprojClaim
public import proofs.«01_k».proof.Proof.MergeClaim
public import Idealize.ShloMosaic.Adequacy
public import Idealize.ShloMosaic.Init

@[expose] public section

noncomputable section

namespace Cert.Proof

theorem claim : Cert.Claim := ⟨Cert.Band1.Gen.facts, Cert.Band1Ideal.Gen.facts, Cert.Band1RefIdeal.Gen.facts,
  Cert.Inproj.Gen.facts, Cert.InprojIdeal.Gen.facts, Cert.InprojRefIdeal.Gen.facts,
  Cert.Merge.Gen.facts, Cert.MergeIdeal.Gen.facts, Cert.MergeRefIdeal.Gen.facts,
  Cert.Pre_finite_z.Gen.facts, Cert.Pre_finite_inputs.Gen.facts, Cert.Pre_finite_lses.Gen.facts,
  Band1.frame_p, Band1.frame_pi, Band1.frame_pi_pre, Band1.frame_ri, Band1.frame_ri_pre,
  Inproj.frame_p, Inproj.frame_pi, Inproj.frame_pi_pre, Inproj.frame_ri, Inproj.frame_ri_pre,
  Merge.frame_p, Merge.frame_pi, Merge.frame_pi_pre, Merge.frame_ri, Merge.frame_ri_pre,
  Band1.preserves, Band1.algebraic, Inproj.preserves, Inproj.algebraic, Merge.preserves, Merge.algebraic⟩

end Cert.Proof

end
